-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "decay_ratio" .f32 0x421C0000#32 ((523449152 / 13421773 : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "sqrt_delta" .f32 0x3FB504F3#32 ((Real.sqrt 2 : ℝ) : EReal)

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S32x256x4096 : Shape := ⟨3, ![32, 256, 4096]⟩
abbrev S_ : Shape := ⟨0, ![]⟩

class Facts : Prop where
  bcast_S_S32x256x4096 : S_.BroadcastsInDim S32x256x4096 (![] : Fin 0 → Fin S32x256x4096.rank)
  reducesTo_S32x256x4096_S_d0_1_2 : S32x256x4096.ReducesTo [0, 1, 2] S_
  h_S_ : 0 < S_.numel

variable [Facts]

def fn {F : FTy → Type} [FloatOps F] (main_arg0 : FVec F S32x256x4096 .f32) : IVec S_ 1 :=
  let main_cst : FVec F S_ .f32 := constant S_ .f32 0x00000000#32
  let main_v0 : FVec F S32x256x4096 .f32 := broadcastInDim S32x256x4096 ![] bcast_S_S32x256x4096 main_cst
  let main_v1 : IVec S32x256x4096 1 := cmpf .oge main_arg0 main_v0
  let main_c : IVec S_ 1 := constantI S_ 1 1#1
  let main_v2 : IVec S_ 1 := (fun x v => Host.reduce IntOp.andi x v reducesTo_S32x256x4096_S_d0_1_2 h_S_) main_v1 main_c
  main_v2
-- ==== Kernel.lean ====
abbrev S32x256x4096 : Shape := ⟨3, ![32, 256, 4096]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S3x2x256x4096 : Shape := ⟨4, ![3, 2, 256, 4096]⟩
abbrev S2x2x256x4096 : Shape := ⟨4, ![2, 2, 256, 4096]⟩
abbrev S3 : Shape := ⟨1, ![3]⟩
abbrev S2 : Shape := ⟨1, ![2]⟩
abbrev S1 : Shape := ⟨1, ![1]⟩
abbrev S1x2x256x4096 : Shape := ⟨4, ![1, 2, 256, 4096]⟩
abbrev S2x256x4096 : Shape := ⟨3, ![2, 256, 4096]⟩
abbrev S1x1x256x256 : Shape := ⟨4, ![1, 1, 256, 256]⟩

abbrev nBuf : Space → Nat
  | .hbm => 22
  | .vmem => 3
  | .smem => 0
  | _ => 0

abbrev bufTy : (tb : Table) → Fin (tcTables nBuf tb) → BufTy
  | .hbm, ⟨0, _⟩ => ⟨S32x256x4096, .f32⟩
  | .hbm, ⟨1, _⟩ => ⟨S256, .i32⟩
  | .hbm, ⟨2, _⟩ => ⟨S1x256, .i32⟩
  | .hbm, ⟨3, _⟩ => ⟨S256x1, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i1⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S32x256x4096, .f32⟩
  | .local _ .vmem, ⟨0, _⟩ => ⟨S256x256, .f32⟩
  | .local _ .vmem, ⟨1, _⟩ => ⟨S3x2x256x4096, .f32⟩
  | .local _ .vmem, ⟨2, _⟩ => ⟨S2x2x256x4096, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_v5 : Ref sig .tc := ⟨.hbm, 6, rfl⟩
abbrev main_call0_c : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_cst : Ref sig .tc := ⟨.hbm, 11, rfl⟩
abbrev main_call0_v9 : Ref sig .tc := ⟨.hbm, 12, rfl⟩
abbrev main_call0_v10 : Ref sig .tc := ⟨.hbm, 13, rfl⟩
abbrev main_call0_cst_0 : Ref sig .tc := ⟨.hbm, 14, rfl⟩
abbrev main_call0_v11 : Ref sig .tc := ⟨.hbm, 15, rfl⟩
abbrev main_call0_v12 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v13 : Ref sig .tc := ⟨.hbm, 20, rfl⟩
abbrev main_v0 : Ref sig .tc := ⟨.hbm, 21, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (c0_i32_394 : BitVec 32) : Fin 1 → Nat :=
  let c3_i32_395 : BitVec 32 := 3#32
  let v965 : BitVec 32 := Scalar.remsi c0_i32_394 c3_i32_395
  ![v965.toNat]
def k0_off2 (c0_i32_392 : BitVec 32) : Fin 4 → Nat :=
  let c3_i32_393 : BitVec 32 := 3#32
  let v964 : BitVec 32 := Scalar.remsi c0_i32_392 c3_i32_393
  let c0_i32_396 : BitVec 32 := 0#32
  let c0_i32_397 : BitVec 32 := 0#32
  let c0_i32_398 : BitVec 32 := 0#32
  ![v964.toNat, 0, 0, 0]
def k0_off3 (i : grid0.Coords) : Fin 1 → Nat :=
  let arg0 : BitVec 32 := BitVec.ofNat 32 (i 0).val
  let c3_i32_3 : BitVec 32 := 3#32
  let v7 : BitVec 32 := Scalar.remsi arg0 c3_i32_3
  ![v7.toNat]
def k0_off4 (i : grid0.Coords) : Fin 4 → Nat :=
  let arg0 : BitVec 32 := BitVec.ofNat 32 (i 0).val
  let c3_i32_2 : BitVec 32 := 3#32
  let v6 : BitVec 32 := Scalar.remsi arg0 c3_i32_2
  let c0_i32_4 : BitVec 32 := 0#32
  let c0_i32_5 : BitVec 32 := 0#32
  let c0_i32_6 : BitVec 32 := 0#32
  ![v6.toNat, 0, 0, 0]
def k0_off5 (i : grid0.Coords) : Fin 3 → Nat :=
  let arg0 : BitVec 32 := BitVec.ofNat 32 (i 0).val
  let c2_i32_1 : BitVec 32 := 2#32
  let v5 : BitVec 32 := Scalar.muli arg0 c2_i32_1
  let c0_i32_7 : BitVec 32 := 0#32
  let c0_i32_8 : BitVec 32 := 0#32
  ![v5.toNat, 0, 0]
def k0_cond2 (i : grid0.Coords) : BitVec 1 :=
  let arg0 : BitVec 32 := BitVec.ofNat 32 (i 0).val
  let c2_i32_9 : BitVec 32 := 2#32
  let v13 : BitVec 1 := Scalar.cmpi .sge arg0 c2_i32_9
  let v14 : BitVec 32 := Scalar.extui v13
  let c0_i32_10 : BitVec 32 := 0#32
  let v15 : BitVec 1 := Scalar.cmpi .ne v14 c0_i32_10
  v15

def k0_off6 (i : grid0.Coords) : Fin 1 → Nat :=
  let arg0 : BitVec 32 := BitVec.ofNat 32 (i 0).val
  let c2_i32_392 : BitVec 32 := 2#32
  let v964 : BitVec 32 := Scalar.subi arg0 c2_i32_392
  let c2_i32_395 : BitVec 32 := 2#32
  let v967 : BitVec 32 := Scalar.remsi v964 c2_i32_395
  ![v967.toNat]
def k0_off7 (i : grid0.Coords) : Fin 3 → Nat :=
  let arg0 : BitVec 32 := BitVec.ofNat 32 (i 0).val
  let c2_i32_392 : BitVec 32 := 2#32
  let v964 : BitVec 32 := Scalar.subi arg0 c2_i32_392
  let c2_i32_394 : BitVec 32 := 2#32
  let v966 : BitVec 32 := Scalar.muli v964 c2_i32_394
  let c0_i32_396 : BitVec 32 := 0#32
  let c0_i32_397 : BitVec 32 := 0#32
  ![v966.toNat, 0, 0]
def k0_off8 (i : grid0.Coords) : Fin 4 → Nat :=
  let arg0 : BitVec 32 := BitVec.ofNat 32 (i 0).val
  let c2_i32_392 : BitVec 32 := 2#32
  let v964 : BitVec 32 := Scalar.subi arg0 c2_i32_392
  let c2_i32_393 : BitVec 32 := 2#32
  let v965 : BitVec 32 := Scalar.remsi v964 c2_i32_393
  let c0_i32_398 : BitVec 32 := 0#32
  let c0_i32_399 : BitVec 32 := 0#32
  let c0_i32_400 : BitVec 32 := 0#32
  ![v965.toNat, 0, 0, 0]
def k0_off9 (i : grid0.Coords) : Fin 4 → Nat :=
  let arg0 : BitVec 32 := BitVec.ofNat 32 (i 0).val
  let c3_i32 : BitVec 32 := 3#32
  let v0 : BitVec 32 := Scalar.remsi arg0 c3_i32
  let v23 : Index := Scalar.indexCast v0
  let c0_13 : Index := 0#32
  let c0_14 : Index := 0#32
  let c0_15 : Index := 0#32
  ![v23.toNat, 0, 0, 0]
def k0_off10 (i : grid0.Coords) : Fin 4 → Nat :=
  let arg0 : BitVec 32 := BitVec.ofNat 32 (i 0).val
  let c2_i32 : BitVec 32 := 2#32
  let v1 : BitVec 32 := Scalar.remsi arg0 c2_i32
  let v48 : Index := Scalar.indexCast v1
  let c0_22 : Index := 0#32
  let c0_23 : Index := 0#32
  let c0_24 : Index := 0#32
  ![v48.toNat, 0, 0, 0]
def k0_off11 (i : grid0.Coords) : Fin 4 → Nat :=
  let arg0 : BitVec 32 := BitVec.ofNat 32 (i 0).val
  let c3_i32 : BitVec 32 := 3#32
  let v0 : BitVec 32 := Scalar.remsi arg0 c3_i32
  let v52 : Index := Scalar.indexCast v0
  let c0_25 : Index := 0#32
  let c0_26 : Index := 0#32
  let c256 : Index := 256#32
  ![v52.toNat, 0, 0, 256]
def k0_off12 (i : grid0.Coords) : Fin 4 → Nat :=
  let arg0 : BitVec 32 := BitVec.ofNat 32 (i 0).val
  let c2_i32 : BitVec 32 := 2#32
  let v1 : BitVec 32 := Scalar.remsi arg0 c2_i32
  let v77 : Index := Scalar.indexCast v1
  let c0_33 : Index := 0#32
  let c0_34 : Index := 0#32
  let c256_35 : Index := 256#32
  ![v77.toNat, 0, 0, 256]
def k0_off13 (i : grid0.Coords) : Fin 4 → Nat :=
  let arg0 : BitVec 32 := BitVec.ofNat 32 (i 0).val
  let c3_i32 : BitVec 32 := 3#32
  let v0 : BitVec 32 := Scalar.remsi arg0 c3_i32
  let v81 : Index := Scalar.indexCast v0
  let c0_36 : Index := 0#32
  let c0_37 : Index := 0#32
  let c512 : Index := 512#32
  ![v81.toNat, 0, 0, 512]
def k0_off14 (i : grid0.Coords) : Fin 4 → Nat :=
  let arg0 : BitVec 32 := BitVec.ofNat 32 (i 0).val
  let c2_i32 : BitVec 32 := 2#32
  let v1 : BitVec 32 := Scalar.remsi arg0 c2_i32
  let v106 : Index := Scalar.indexCast v1
  let c0_44 : Index := 0#32
  let c0_45 : Index := 0#32
  let c512_46 : Index := 512#32
  ![v106.toNat, 0, 0, 512]
def k0_off15 (i : grid0.Coords) : Fin 4 → Nat :=
  let arg0 : BitVec 32 := BitVec.ofNat 32 (i 0).val
  let c3_i32 : BitVec 32 := 3#32
  let v0 : BitVec 32 := Scalar.remsi arg0 c3_i32
  let v110 : Index := Scalar.indexCast v0
  let c0_47 : Index := 0#32
  let c0_48 : Index := 0#32
  let c768 : Index := 768#32
  ![v110.toNat, 0, 0, 768]
def k0_off16 (i : grid0.Coords) : Fin 4 → Nat :=
  let arg0 : BitVec 32 := BitVec.ofNat 32 (i 0).val
  let c2_i32 : BitVec 32 := 2#32
  let v1 : BitVec 32 := Scalar.remsi arg0 c2_i32
  let v135 : Index := Scalar.indexCast v1
  let c0_55 : Index := 0#32
  let c0_56 : Index := 0#32
  let c768_57 : Index := 768#32
  ![v135.toNat, 0, 0, 768]
def k0_off17 (i : grid0.Coords) : Fin 4 → Nat :=
  let arg0 : BitVec 32 := BitVec.ofNat 32 (i 0).val
  let c3_i32 : BitVec 32 := 3#32
  let v0 : BitVec 32 := Scalar.remsi arg0 c3_i32
  let v139 : Index := Scalar.indexCast v0
  let c0_58 : Index := 0#32
  let c0_59 : Index := 0#32
  let c1024 : Index := 1024#32
  ![v139.toNat, 0, 0, 1024]
def k0_off18 (i : grid0.Coords) : Fin 4 → Nat :=
  let arg0 : BitVec 32 := BitVec.ofNat 32 (i 0).val
  let c2_i32 : BitVec 32 := 2#32
  let v1 : BitVec 32 := Scalar.remsi arg0 c2_i32
  let v164 : Index := Scalar.indexCast v1
  let c0_66 : Index := 0#32
  let c0_67 : Index := 0#32
  let c1024_68 : Index := 1024#32
  ![v164.toNat, 0, 0, 1024]
def k0_off19 (i : grid0.Coords) : Fin 4 → Nat :=
  let arg0 : BitVec 32 := BitVec.ofNat 32 (i 0).val
  let c3_i32 : BitVec 32 := 3#32
  let v0 : BitVec 32 := Scalar.remsi arg0 c3_i32
  let v168 : Index := Scalar.indexCast v0
  let c0_69 : Index := 0#32
  let c0_70 : Index := 0#32
  let c1280 : Index := 1280#32
  ![v168.toNat, 0, 0, 1280]
def k0_off20 (i : grid0.Coords) : Fin 4 → Nat :=
  let arg0 : BitVec 32 := BitVec.ofNat 32 (i 0).val
  let c2_i32 : BitVec 32 := 2#32
  let v1 : BitVec 32 := Scalar.remsi arg0 c2_i32
  let v193 : Index := Scalar.indexCast v1
  let c0_77 : Index := 0#32
  let c0_78 : Index := 0#32
  let c1280_79 : Index := 1280#32
  ![v193.toNat, 0, 0, 1280]
def k0_off21 (i : grid0.Coords) : Fin 4 → Nat :=
  let arg0 : BitVec 32 := BitVec.ofNat 32 (i 0).val
  let c3_i32 : BitVec 32 := 3#32
  let v0 : BitVec 32 := Scalar.remsi arg0 c3_i32
  let v197 : Index := Scalar.indexCast v0
  let c0_80 : Index := 0#32
  let c0_81 : Index := 0#32
  let c1536 : Index := 1536#32
  ![v197.toNat, 0, 0, 1536]
def k0_off22 (i : grid0.Coords) : Fin 4 → Nat :=
  let arg0 : BitVec 32 := BitVec.ofNat 32 (i 0).val
  let c2_i32 : BitVec 32 := 2#32
  let v1 : BitVec 32 := Scalar.remsi arg0 c2_i32
  let v222 : Index := Scalar.indexCast v1
  let c0_88 : Index := 0#32
  let c0_89 : Index := 0#32
  let c1536_90 : Index := 1536#32
  ![v222.toNat, 0, 0, 1536]
def k0_off23 (i : grid0.Coords) : Fin 4 → Nat :=
  let arg0 : BitVec 32 := BitVec.ofNat 32 (i 0).val
  let c3_i32 : BitVec 32 := 3#32
  let v0 : BitVec 32 := Scalar.remsi arg0 c3_i32
  let v226 : Index := Scalar.indexCast v0
  let c0_91 : Index := 0#32
  let c0_92 : Index := 0#32
  let c1792 : Index := 1792#32
  ![v226.toNat, 0, 0, 1792]
def k0_off24 (i : grid0.Coords) : Fin 4 → Nat :=
  let arg0 : BitVec 32 := BitVec.ofNat 32 (i 0).val
  let c2_i32 : BitVec 32 := 2#32
  let v1 : BitVec 32 := Scalar.remsi arg0 c2_i32
  let v251 : Index := Scalar.indexCast v1
  let c0_99 : Index := 0#32
  let c0_100 : Index := 0#32
  let c1792_101 : Index := 1792#32
  ![v251.toNat, 0, 0, 1792]
def k0_off25 (i : grid0.Coords) : Fin 4 → Nat :=
  let arg0 : BitVec 32 := BitVec.ofNat 32 (i 0).val
  let c3_i32 : BitVec 32 := 3#32
  let v0 : BitVec 32 := Scalar.remsi arg0 c3_i32
  let v255 : Index := Scalar.indexCast v0
  let c0_102 : Index := 0#32
  let c0_103 : Index := 0#32
  let c2048 : Index := 2048#32
  ![v255.toNat, 0, 0, 2048]
def k0_off26 (i : grid0.Coords) : Fin 4 → Nat :=
  let arg0 : BitVec 32 := BitVec.ofNat 32 (i 0).val
  let c2_i32 : BitVec 32 := 2#32
  let v1 : BitVec 32 := Scalar.remsi arg0 c2_i32
  let v280 : Index := Scalar.indexCast v1
  let c0_110 : Index := 0#32
  let c0_111 : Index := 0#32
  let c2048_112 : Index := 2048#32
  ![v280.toNat, 0, 0, 2048]
def k0_off27 (i : grid0.Coords) : Fin 4 → Nat :=
  let arg0 : BitVec 32 := BitVec.ofNat 32 (i 0).val
  let c3_i32 : BitVec 32 := 3#32
  let v0 : BitVec 32 := Scalar.remsi arg0 c3_i32
  let v284 : Index := Scalar.indexCast v0
  let c0_113 : Index := 0#32
  let c0_114 : Index := 0#32
  let c2304 : Index := 2304#32
  ![v284.toNat, 0, 0, 2304]
def k0_off28 (i : grid0.Coords) : Fin 4 → Nat :=
  let arg0 : BitVec 32 := BitVec.ofNat 32 (i 0).val
  let c2_i32 : BitVec 32 := 2#32
  let v1 : BitVec 32 := Scalar.remsi arg0 c2_i32
  let v309 : Index := Scalar.indexCast v1
  let c0_121 : Index := 0#32
  let c0_122 : Index := 0#32
  let c2304_123 : Index := 2304#32
  ![v309.toNat, 0, 0, 2304]
def k0_off29 (i : grid0.Coords) : Fin 4 → Nat :=
  let arg0 : BitVec 32 := BitVec.ofNat 32 (i 0).val
  let c3_i32 : BitVec 32 := 3#32
  let v0 : BitVec 32 := Scalar.remsi arg0 c3_i32
  let v313 : Index := Scalar.indexCast v0
  let c0_124 : Index := 0#32
  let c0_125 : Index := 0#32
  let c2560 : Index := 2560#32
  ![v313.toNat, 0, 0, 2560]
def k0_off30 (i : grid0.Coords) : Fin 4 → Nat :=
  let arg0 : BitVec 32 := BitVec.ofNat 32 (i 0).val
  let c2_i32 : BitVec 32 := 2#32
  let v1 : BitVec 32 := Scalar.remsi arg0 c2_i32
  let v338 : Index := Scalar.indexCast v1
  let c0_132 : Index := 0#32
  let c0_133 : Index := 0#32
  let c2560_134 : Index := 2560#32
  ![v338.toNat, 0, 0, 2560]
def k0_off31 (i : grid0.Coords) : Fin 4 → Nat :=
  let arg0 : BitVec 32 := BitVec.ofNat 32 (i 0).val
  let c3_i32 : BitVec 32 := 3#32
  let v0 : BitVec 32 := Scalar.remsi arg0 c3_i32
  let v342 : Index := Scalar.indexCast v0
  let c0_135 : Index := 0#32
  let c0_136 : Index := 0#32
  let c2816 : Index := 2816#32
  ![v342.toNat, 0, 0, 2816]
def k0_off32 (i : grid0.Coords) : Fin 4 → Nat :=
  let arg0 : BitVec 32 := BitVec.ofNat 32 (i 0).val
  let c2_i32 : BitVec 32 := 2#32
  let v1 : BitVec 32 := Scalar.remsi arg0 c2_i32
  let v367 : Index := Scalar.indexCast v1
  let c0_143 : Index := 0#32
  let c0_144 : Index := 0#32
  let c2816_145 : Index := 2816#32
  ![v367.toNat, 0, 0, 2816]
def k0_off33 (i : grid0.Coords) : Fin 4 → Nat :=
  let arg0 : BitVec 32 := BitVec.ofNat 32 (i 0).val
  let c3_i32 : BitVec 32 := 3#32
  let v0 : BitVec 32 := Scalar.remsi arg0 c3_i32
  let v371 : Index := Scalar.indexCast v0
  let c0_146 : Index := 0#32
  let c0_147 : Index := 0#32
  let c3072 : Index := 3072#32
  ![v371.toNat, 0, 0, 3072]
def k0_off34 (i : grid0.Coords) : Fin 4 → Nat :=
  let arg0 : BitVec 32 := BitVec.ofNat 32 (i 0).val
  let c2_i32 : BitVec 32 := 2#32
  let v1 : BitVec 32 := Scalar.remsi arg0 c2_i32
  let v396 : Index := Scalar.indexCast v1
  let c0_154 : Index := 0#32
  let c0_155 : Index := 0#32
  let c3072_156 : Index := 3072#32
  ![v396.toNat, 0, 0, 3072]
def k0_off35 (i : grid0.Coords) : Fin 4 → Nat :=
  let arg0 : BitVec 32 := BitVec.ofNat 32 (i 0).val
  let c3_i32 : BitVec 32 := 3#32
  let v0 : BitVec 32 := Scalar.remsi arg0 c3_i32
  let v400 : Index := Scalar.indexCast v0
  let c0_157 : Index := 0#32
  let c0_158 : Index := 0#32
  let c3328 : Index := 3328#32
  ![v400.toNat, 0, 0, 3328]
def k0_off36 (i : grid0.Coords) : Fin 4 → Nat :=
  let arg0 : BitVec 32 := BitVec.ofNat 32 (i 0).val
  let c2_i32 : BitVec 32 := 2#32
  let v1 : BitVec 32 := Scalar.remsi arg0 c2_i32
  let v425 : Index := Scalar.indexCast v1
  let c0_165 : Index := 0#32
  let c0_166 : Index := 0#32
  let c3328_167 : Index := 3328#32
  ![v425.toNat, 0, 0, 3328]
def k0_off37 (i : grid0.Coords) : Fin 4 → Nat :=
  let arg0 : BitVec 32 := BitVec.ofNat 32 (i 0).val
  let c3_i32 : BitVec 32 := 3#32
  let v0 : BitVec 32 := Scalar.remsi arg0 c3_i32
  let v429 : Index := Scalar.indexCast v0
  let c0_168 : Index := 0#32
  let c0_169 : Index := 0#32
  let c3584 : Index := 3584#32
  ![v429.toNat, 0, 0, 3584]
def k0_off38 (i : grid0.Coords) : Fin 4 → Nat :=
  let arg0 : BitVec 32 := BitVec.ofNat 32 (i 0).val
  let c2_i32 : BitVec 32 := 2#32
  let v1 : BitVec 32 := Scalar.remsi arg0 c2_i32
  let v454 : Index := Scalar.indexCast v1
  let c0_176 : Index := 0#32
  let c0_177 : Index := 0#32
  let c3584_178 : Index := 3584#32
  ![v454.toNat, 0, 0, 3584]
def k0_off39 (i : grid0.Coords) : Fin 4 → Nat :=
  let arg0 : BitVec 32 := BitVec.ofNat 32 (i 0).val
  let c3_i32 : BitVec 32 := 3#32
  let v0 : BitVec 32 := Scalar.remsi arg0 c3_i32
  let v458 : Index := Scalar.indexCast v0
  let c0_179 : Index := 0#32
  let c0_180 : Index := 0#32
  let c3840 : Index := 3840#32
  ![v458.toNat, 0, 0, 3840]
def k0_off40 (i : grid0.Coords) : Fin 4 → Nat :=
  let arg0 : BitVec 32 := BitVec.ofNat 32 (i 0).val
  let c2_i32 : BitVec 32 := 2#32
  let v1 : BitVec 32 := Scalar.remsi arg0 c2_i32
  let v482 : Index := Scalar.indexCast v1
  let c0_187 : Index := 0#32
  let c0_188 : Index := 0#32
  let c3840_189 : Index := 3840#32
  ![v482.toNat, 0, 0, 3840]
def k0_off41 (i : grid0.Coords) : Fin 4 → Nat :=
  let arg0 : BitVec 32 := BitVec.ofNat 32 (i 0).val
  let c3_i32 : BitVec 32 := 3#32
  let v0 : BitVec 32 := Scalar.remsi arg0 c3_i32
  let v487 : Index := Scalar.indexCast v0
  let c1 : Index := 1#32
  let c0_191 : Index := 0#32
  let c0_192 : Index := 0#32
  ![v487.toNat, 1, 0, 0]
def k0_off42 (i : grid0.Coords) : Fin 4 → Nat :=
  let arg0 : BitVec 32 := BitVec.ofNat 32 (i 0).val
  let c2_i32 : BitVec 32 := 2#32
  let v1 : BitVec 32 := Scalar.remsi arg0 c2_i32
  let v512 : Index := Scalar.indexCast v1
  let c1_199 : Index := 1#32
  let c0_200 : Index := 0#32
  let c0_201 : Index := 0#32
  ![v512.toNat, 1, 0, 0]
def k0_off43 (i : grid0.Coords) : Fin 4 → Nat :=
  let arg0 : BitVec 32 := BitVec.ofNat 32 (i 0).val
  let c3_i32 : BitVec 32 := 3#32
  let v0 : BitVec 32 := Scalar.remsi arg0 c3_i32
  let v516 : Index := Scalar.indexCast v0
  let c1_202 : Index := 1#32
  let c0_203 : Index := 0#32
  let c256_204 : Index := 256#32
  ![v516.toNat, 1, 0, 256]
def k0_off44 (i : grid0.Coords) : Fin 4 → Nat :=
  let arg0 : BitVec 32 := BitVec.ofNat 32 (i 0).val
  let c2_i32 : BitVec 32 := 2#32
  let v1 : BitVec 32 := Scalar.remsi arg0 c2_i32
  let v541 : Index := Scalar.indexCast v1
  let c1_211 : Index := 1#32
  let c0_212 : Index := 0#32
  let c256_213 : Index := 256#32
  ![v541.toNat, 1, 0, 256]
def k0_off45 (i : grid0.Coords) : Fin 4 → Nat :=
  let arg0 : BitVec 32 := BitVec.ofNat 32 (i 0).val
  let c3_i32 : BitVec 32 := 3#32
  let v0 : BitVec 32 := Scalar.remsi arg0 c3_i32
  let v545 : Index := Scalar.indexCast v0
  let c1_214 : Index := 1#32
  let c0_215 : Index := 0#32
  let c512_216 : Index := 512#32
  ![v545.toNat, 1, 0, 512]
def k0_off46 (i : grid0.Coords) : Fin 4 → Nat :=
  let arg0 : BitVec 32 := BitVec.ofNat 32 (i 0).val
  let c2_i32 : BitVec 32 := 2#32
  let v1 : BitVec 32 := Scalar.remsi arg0 c2_i32
  let v570 : Index := Scalar.indexCast v1
  let c1_223 : Index := 1#32
  let c0_224 : Index := 0#32
  let c512_225 : Index := 512#32
  ![v570.toNat, 1, 0, 512]
def k0_off47 (i : grid0.Coords) : Fin 4 → Nat :=
  let arg0 : BitVec 32 := BitVec.ofNat 32 (i 0).val
  let c3_i32 : BitVec 32 := 3#32
  let v0 : BitVec 32 := Scalar.remsi arg0 c3_i32
  let v574 : Index := Scalar.indexCast v0
  let c1_226 : Index := 1#32
  let c0_227 : Index := 0#32
  let c768_228 : Index := 768#32
  ![v574.toNat, 1, 0, 768]
def k0_off48 (i : grid0.Coords) : Fin 4 → Nat :=
  let arg0 : BitVec 32 := BitVec.ofNat 32 (i 0).val
  let c2_i32 : BitVec 32 := 2#32
  let v1 : BitVec 32 := Scalar.remsi arg0 c2_i32
  let v599 : Index := Scalar.indexCast v1
  let c1_235 : Index := 1#32
  let c0_236 : Index := 0#32
  let c768_237 : Index := 768#32
  ![v599.toNat, 1, 0, 768]
def k0_off49 (i : grid0.Coords) : Fin 4 → Nat :=
  let arg0 : BitVec 32 := BitVec.ofNat 32 (i 0).val
  let c3_i32 : BitVec 32 := 3#32
  let v0 : BitVec 32 := Scalar.remsi arg0 c3_i32
  let v603 : Index := Scalar.indexCast v0
  let c1_238 : Index := 1#32
  let c0_239 : Index := 0#32
  let c1024_240 : Index := 1024#32
  ![v603.toNat, 1, 0, 1024]
def k0_off50 (i : grid0.Coords) : Fin 4 → Nat :=
  let arg0 : BitVec 32 := BitVec.ofNat 32 (i 0).val
  let c2_i32 : BitVec 32 := 2#32
  let v1 : BitVec 32 := Scalar.remsi arg0 c2_i32
  let v628 : Index := Scalar.indexCast v1
  let c1_247 : Index := 1#32
  let c0_248 : Index := 0#32
  let c1024_249 : Index := 1024#32
  ![v628.toNat, 1, 0, 1024]
def k0_off51 (i : grid0.Coords) : Fin 4 → Nat :=
  let arg0 : BitVec 32 := BitVec.ofNat 32 (i 0).val
  let c3_i32 : BitVec 32 := 3#32
  let v0 : BitVec 32 := Scalar.remsi arg0 c3_i32
  let v632 : Index := Scalar.indexCast v0
  let c1_250 : Index := 1#32
  let c0_251 : Index := 0#32
  let c1280_252 : Index := 1280#32
  ![v632.toNat, 1, 0, 1280]
def k0_off52 (i : grid0.Coords) : Fin 4 → Nat :=
  let arg0 : BitVec 32 := BitVec.ofNat 32 (i 0).val
  let c2_i32 : BitVec 32 := 2#32
  let v1 : BitVec 32 := Scalar.remsi arg0 c2_i32
  let v657 : Index := Scalar.indexCast v1
  let c1_259 : Index := 1#32
  let c0_260 : Index := 0#32
  let c1280_261 : Index := 1280#32
  ![v657.toNat, 1, 0, 1280]
def k0_off53 (i : grid0.Coords) : Fin 4 → Nat :=
  let arg0 : BitVec 32 := BitVec.ofNat 32 (i 0).val
  let c3_i32 : BitVec 32 := 3#32
  let v0 : BitVec 32 := Scalar.remsi arg0 c3_i32
  let v661 : Index := Scalar.indexCast v0
  let c1_262 : Index := 1#32
  let c0_263 : Index := 0#32
  let c1536_264 : Index := 1536#32
  ![v661.toNat, 1, 0, 1536]
def k0_off54 (i : grid0.Coords) : Fin 4 → Nat :=
  let arg0 : BitVec 32 := BitVec.ofNat 32 (i 0).val
  let c2_i32 : BitVec 32 := 2#32
  let v1 : BitVec 32 := Scalar.remsi arg0 c2_i32
  let v686 : Index := Scalar.indexCast v1
  let c1_271 : Index := 1#32
  let c0_272 : Index := 0#32
  let c1536_273 : Index := 1536#32
  ![v686.toNat, 1, 0, 1536]
def k0_off55 (i : grid0.Coords) : Fin 4 → Nat :=
  let arg0 : BitVec 32 := BitVec.ofNat 32 (i 0).val
  let c3_i32 : BitVec 32 := 3#32
  let v0 : BitVec 32 := Scalar.remsi arg0 c3_i32
  let v690 : Index := Scalar.indexCast v0
  let c1_274 : Index := 1#32
  let c0_275 : Index := 0#32
  let c1792_276 : Index := 1792#32
  ![v690.toNat, 1, 0, 1792]
def k0_off56 (i : grid0.Coords) : Fin 4 → Nat :=
  let arg0 : BitVec 32 := BitVec.ofNat 32 (i 0).val
  let c2_i32 : BitVec 32 := 2#32
  let v1 : BitVec 32 := Scalar.remsi arg0 c2_i32
  let v715 : Index := Scalar.indexCast v1
  let c1_283 : Index := 1#32
  let c0_284 : Index := 0#32
  let c1792_285 : Index := 1792#32
  ![v715.toNat, 1, 0, 1792]
def k0_off57 (i : grid0.Coords) : Fin 4 → Nat :=
  let arg0 : BitVec 32 := BitVec.ofNat 32 (i 0).val
  let c3_i32 : BitVec 32 := 3#32
  let v0 : BitVec 32 := Scalar.remsi arg0 c3_i32
  let v719 : Index := Scalar.indexCast v0
  let c1_286 : Index := 1#32
  let c0_287 : Index := 0#32
  let c2048_288 : Index := 2048#32
  ![v719.toNat, 1, 0, 2048]
def k0_off58 (i : grid0.Coords) : Fin 4 → Nat :=
  let arg0 : BitVec 32 := BitVec.ofNat 32 (i 0).val
  let c2_i32 : BitVec 32 := 2#32
  let v1 : BitVec 32 := Scalar.remsi arg0 c2_i32
  let v744 : Index := Scalar.indexCast v1
  let c1_295 : Index := 1#32
  let c0_296 : Index := 0#32
  let c2048_297 : Index := 2048#32
  ![v744.toNat, 1, 0, 2048]
def k0_off59 (i : grid0.Coords) : Fin 4 → Nat :=
  let arg0 : BitVec 32 := BitVec.ofNat 32 (i 0).val
  let c3_i32 : BitVec 32 := 3#32
  let v0 : BitVec 32 := Scalar.remsi arg0 c3_i32
  let v748 : Index := Scalar.indexCast v0
  let c1_298 : Index := 1#32
  let c0_299 : Index := 0#32
  let c2304_300 : Index := 2304#32
  ![v748.toNat, 1, 0, 2304]
def k0_off60 (i : grid0.Coords) : Fin 4 → Nat :=
  let arg0 : BitVec 32 := BitVec.ofNat 32 (i 0).val
  let c2_i32 : BitVec 32 := 2#32
  let v1 : BitVec 32 := Scalar.remsi arg0 c2_i32
  let v773 : Index := Scalar.indexCast v1
  let c1_307 : Index := 1#32
  let c0_308 : Index := 0#32
  let c2304_309 : Index := 2304#32
  ![v773.toNat, 1, 0, 2304]
def k0_off61 (i : grid0.Coords) : Fin 4 → Nat :=
  let arg0 : BitVec 32 := BitVec.ofNat 32 (i 0).val
  let c3_i32 : BitVec 32 := 3#32
  let v0 : BitVec 32 := Scalar.remsi arg0 c3_i32
  let v777 : Index := Scalar.indexCast v0
  let c1_310 : Index := 1#32
  let c0_311 : Index := 0#32
  let c2560_312 : Index := 2560#32
  ![v777.toNat, 1, 0, 2560]
def k0_off62 (i : grid0.Coords) : Fin 4 → Nat :=
  let arg0 : BitVec 32 := BitVec.ofNat 32 (i 0).val
  let c2_i32 : BitVec 32 := 2#32
  let v1 : BitVec 32 := Scalar.remsi arg0 c2_i32
  let v802 : Index := Scalar.indexCast v1
  let c1_319 : Index := 1#32
  let c0_320 : Index := 0#32
  let c2560_321 : Index := 2560#32
  ![v802.toNat, 1, 0, 2560]
def k0_off63 (i : grid0.Coords) : Fin 4 → Nat :=
  let arg0 : BitVec 32 := BitVec.ofNat 32 (i 0).val
  let c3_i32 : BitVec 32 := 3#32
  let v0 : BitVec 32 := Scalar.remsi arg0 c3_i32
  let v806 : Index := Scalar.indexCast v0
  let c1_322 : Index := 1#32
  let c0_323 : Index := 0#32
  let c2816_324 : Index := 2816#32
  ![v806.toNat, 1, 0, 2816]
def k0_off64 (i : grid0.Coords) : Fin 4 → Nat :=
  let arg0 : BitVec 32 := BitVec.ofNat 32 (i 0).val
  let c2_i32 : BitVec 32 := 2#32
  let v1 : BitVec 32 := Scalar.remsi arg0 c2_i32
  let v831 : Index := Scalar.indexCast v1
  let c1_331 : Index := 1#32
  let c0_332 : Index := 0#32
  let c2816_333 : Index := 2816#32
  ![v831.toNat, 1, 0, 2816]
def k0_off65 (i : grid0.Coords) : Fin 4 → Nat :=
  let arg0 : BitVec 32 := BitVec.ofNat 32 (i 0).val
  let c3_i32 : BitVec 32 := 3#32
  let v0 : BitVec 32 := Scalar.remsi arg0 c3_i32
  let v835 : Index := Scalar.indexCast v0
  let c1_334 : Index := 1#32
  let c0_335 : Index := 0#32
  let c3072_336 : Index := 3072#32
  ![v835.toNat, 1, 0, 3072]
def k0_off66 (i : grid0.Coords) : Fin 4 → Nat :=
  let arg0 : BitVec 32 := BitVec.ofNat 32 (i 0).val
  let c2_i32 : BitVec 32 := 2#32
  let v1 : BitVec 32 := Scalar.remsi arg0 c2_i32
  let v860 : Index := Scalar.indexCast v1
  let c1_343 : Index := 1#32
  let c0_344 : Index := 0#32
  let c3072_345 : Index := 3072#32
  ![v860.toNat, 1, 0, 3072]
def k0_off67 (i : grid0.Coords) : Fin 4 → Nat :=
  let arg0 : BitVec 32 := BitVec.ofNat 32 (i 0).val
  let c3_i32 : BitVec 32 := 3#32
  let v0 : BitVec 32 := Scalar.remsi arg0 c3_i32
  let v864 : Index := Scalar.indexCast v0
  let c1_346 : Index := 1#32
  let c0_347 : Index := 0#32
  let c3328_348 : Index := 3328#32
  ![v864.toNat, 1, 0, 3328]
def k0_off68 (i : grid0.Coords) : Fin 4 → Nat :=
  let arg0 : BitVec 32 := BitVec.ofNat 32 (i 0).val
  let c2_i32 : BitVec 32 := 2#32
  let v1 : BitVec 32 := Scalar.remsi arg0 c2_i32
  let v889 : Index := Scalar.indexCast v1
  let c1_355 : Index := 1#32
  let c0_356 : Index := 0#32
  let c3328_357 : Index := 3328#32
  ![v889.toNat, 1, 0, 3328]
def k0_off69 (i : grid0.Coords) : Fin 4 → Nat :=
  let arg0 : BitVec 32 := BitVec.ofNat 32 (i 0).val
  let c3_i32 : BitVec 32 := 3#32
  let v0 : BitVec 32 := Scalar.remsi arg0 c3_i32
  let v893 : Index := Scalar.indexCast v0
  let c1_358 : Index := 1#32
  let c0_359 : Index := 0#32
  let c3584_360 : Index := 3584#32
  ![v893.toNat, 1, 0, 3584]
def k0_off70 (i : grid0.Coords) : Fin 4 → Nat :=
  let arg0 : BitVec 32 := BitVec.ofNat 32 (i 0).val
  let c2_i32 : BitVec 32 := 2#32
  let v1 : BitVec 32 := Scalar.remsi arg0 c2_i32
  let v918 : Index := Scalar.indexCast v1
  let c1_367 : Index := 1#32
  let c0_368 : Index := 0#32
  let c3584_369 : Index := 3584#32
  ![v918.toNat, 1, 0, 3584]
def k0_off71 (i : grid0.Coords) : Fin 4 → Nat :=
  let arg0 : BitVec 32 := BitVec.ofNat 32 (i 0).val
  let c3_i32 : BitVec 32 := 3#32
  let v0 : BitVec 32 := Scalar.remsi arg0 c3_i32
  let v922 : Index := Scalar.indexCast v0
  let c1_370 : Index := 1#32
  let c0_371 : Index := 0#32
  let c3840_372 : Index := 3840#32
  ![v922.toNat, 1, 0, 3840]
def k0_off72 (i : grid0.Coords) : Fin 4 → Nat :=
  let arg0 : BitVec 32 := BitVec.ofNat 32 (i 0).val
  let c2_i32 : BitVec 32 := 2#32
  let v1 : BitVec 32 := Scalar.remsi arg0 c2_i32
  let v946 : Index := Scalar.indexCast v1
  let c1_379 : Index := 1#32
  let c0_380 : Index := 0#32
  let c3840_381 : Index := 3840#32
  ![v946.toNat, 1, 0, 3840]
def k0_off73 (i : grid0.Coords) : Fin 1 → Nat :=
  let arg0 : BitVec 32 := BitVec.ofNat 32 (i 0).val
  let c2_i32_384 : BitVec 32 := 2#32
  let v952 : BitVec 32 := Scalar.remsi arg0 c2_i32_384
  ![v952.toNat]
def k0_off74 (i : grid0.Coords) : Fin 4 → Nat :=
  let arg0 : BitVec 32 := BitVec.ofNat 32 (i 0).val
  let c2_i32_382 : BitVec 32 := 2#32
  let v950 : BitVec 32 := Scalar.remsi arg0 c2_i32_382
  let c0_i32_387 : BitVec 32 := 0#32
  let c0_i32_388 : BitVec 32 := 0#32
  let c0_i32_389 : BitVec 32 := 0#32
  ![v950.toNat, 0, 0, 0]
def k0_cond3 (i : grid0.Coords) : BitVec 1 :=
  let arg0 : BitVec 32 := BitVec.ofNat 32 (i 0).val
  let c13_i32 : BitVec 32 := 13#32
  let v958 : BitVec 1 := Scalar.cmpi .slt arg0 c13_i32
  let v959 : BitVec 32 := Scalar.extui v958
  let c0_i32_390 : BitVec 32 := 0#32
  let v960 : BitVec 1 := Scalar.cmpi .ne v959 c0_i32_390
  v960

def k0_off75 (i : grid0.Coords) : Fin 1 → Nat :=
  let arg0 : BitVec 32 := BitVec.ofNat 32 (i 0).val
  let c3_i32_392 : BitVec 32 := 3#32
  let v964 : BitVec 32 := Scalar.addi arg0 c3_i32_392
  let c3_i32_395 : BitVec 32 := 3#32
  let v967 : BitVec 32 := Scalar.remsi v964 c3_i32_395
  ![v967.toNat]
def k0_off76 (i : grid0.Coords) : Fin 4 → Nat :=
  let arg0 : BitVec 32 := BitVec.ofNat 32 (i 0).val
  let c3_i32_392 : BitVec 32 := 3#32
  let v964 : BitVec 32 := Scalar.addi arg0 c3_i32_392
  let c3_i32_394 : BitVec 32 := 3#32
  let v966 : BitVec 32 := Scalar.remsi v964 c3_i32_394
  let c0_i32_396 : BitVec 32 := 0#32
  let c0_i32_397 : BitVec 32 := 0#32
  let c0_i32_398 : BitVec 32 := 0#32
  ![v966.toNat, 0, 0, 0]
def k0_off77 (i : grid0.Coords) : Fin 3 → Nat :=
  let arg0 : BitVec 32 := BitVec.ofNat 32 (i 0).val
  let c3_i32_392 : BitVec 32 := 3#32
  let v964 : BitVec 32 := Scalar.addi arg0 c3_i32_392
  let c2_i32_393 : BitVec 32 := 2#32
  let v965 : BitVec 32 := Scalar.muli v964 c2_i32_393
  let c0_i32_399 : BitVec 32 := 0#32
  let c0_i32_400 : BitVec 32 := 0#32
  ![v965.toNat, 0, 0]
def k0_cond4 (i : grid0.Coords) : BitVec 1 :=
  let arg0 : BitVec 32 := BitVec.ofNat 32 (i 0).val
  let c15_i32 : BitVec 32 := 15#32
  let v961 : BitVec 1 := Scalar.cmpi .eq arg0 c15_i32
  let v962 : BitVec 32 := Scalar.extui v961
  let c0_i32_391 : BitVec 32 := 0#32
  let v963 : BitVec 1 := Scalar.cmpi .ne v962 c0_i32_391
  v963

def k0_off78 (i : grid0.Coords) : Fin 1 → Nat :=
  let arg0 : BitVec 32 := BitVec.ofNat 32 (i 0).val
  let c1_i32 : BitVec 32 := 1#32
  let v964 : BitVec 32 := Scalar.subi arg0 c1_i32
  let c2_i32_394 : BitVec 32 := 2#32
  let v967 : BitVec 32 := Scalar.remsi v964 c2_i32_394
  ![v967.toNat]
def k0_off79 (i : grid0.Coords) : Fin 3 → Nat :=
  let arg0 : BitVec 32 := BitVec.ofNat 32 (i 0).val
  let c1_i32 : BitVec 32 := 1#32
  let v964 : BitVec 32 := Scalar.subi arg0 c1_i32
  let c2_i32_393 : BitVec 32 := 2#32
  let v966 : BitVec 32 := Scalar.muli v964 c2_i32_393
  let c0_i32_395 : BitVec 32 := 0#32
  let c0_i32_396 : BitVec 32 := 0#32
  ![v966.toNat, 0, 0]
def k0_off80 (i : grid0.Coords) : Fin 4 → Nat :=
  let arg0 : BitVec 32 := BitVec.ofNat 32 (i 0).val
  let c1_i32 : BitVec 32 := 1#32
  let v964 : BitVec 32 := Scalar.subi arg0 c1_i32
  let c2_i32_392 : BitVec 32 := 2#32
  let v965 : BitVec 32 := Scalar.remsi v964 c2_i32_392
  let c0_i32_397 : BitVec 32 := 0#32
  let c0_i32_398 : BitVec 32 := 0#32
  let c0_i32_399 : BitVec 32 := 0#32
  ![v965.toNat, 0, 0, 0]
def k0_off81 (i : grid0.Coords) : Fin 1 → Nat :=
  let arg0 : BitVec 32 := BitVec.ofNat 32 (i 0).val
  let c2_i32_402 : BitVec 32 := 2#32
  let v975 : BitVec 32 := Scalar.remsi arg0 c2_i32_402
  ![v975.toNat]
def k0_off82 (i : grid0.Coords) : Fin 3 → Nat :=
  let arg0 : BitVec 32 := BitVec.ofNat 32 (i 0).val
  let c2_i32_401 : BitVec 32 := 2#32
  let v974 : BitVec 32 := Scalar.muli arg0 c2_i32_401
  let c0_i32_403 : BitVec 32 := 0#32
  let c0_i32_404 : BitVec 32 := 0#32
  ![v974.toNat, 0, 0]
def k0_off83 (i : grid0.Coords) : Fin 4 → Nat :=
  let arg0 : BitVec 32 := BitVec.ofNat 32 (i 0).val
  let c2_i32_400 : BitVec 32 := 2#32
  let v973 : BitVec 32 := Scalar.remsi arg0 c2_i32_400
  let c0_i32_405 : BitVec 32 := 0#32
  let c0_i32_406 : BitVec 32 := 0#32
  let c0_i32_407 : BitVec 32 := 0#32
  ![v973.toNat, 0, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== KernelIdeal.lean ====
variable {F : FTy → Type} [FloatOps F] [Named F]
def κ : String → Option EReal := fun
  | "decay_ratio" => some ((523449152 / 13421773 : ℝ) : EReal)
  | "inv_ln2" => some (((Real.log 2)⁻¹ : ℝ) : EReal)
  | "sqrt_delta" => some ((Real.sqrt 2 : ℝ) : EReal)
  | _ => none
-- ==== ReferenceIdeal.lean ====
abbrev S32x256x4096 : Shape := ⟨3, ![32, 256, 4096]⟩
abbrev S4096x32x256 : Shape := ⟨3, ![4096, 32, 256]⟩
abbrev S1x32x256 : Shape := ⟨3, ![1, 32, 256]⟩
abbrev S32x256 : Shape := ⟨2, ![32, 256]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S4096x32x256, .f32⟩
  | .hbm, ⟨2, _⟩ => ⟨S1x32x256, .f32⟩
  | .hbm, ⟨3, _⟩ => ⟨S32x256, .f32⟩
  | .hbm, ⟨4, _⟩ => ⟨S_, .f32⟩
  | .hbm, ⟨5, _⟩ => ⟨S32x256, .f32⟩
  | .hbm, ⟨6, _⟩ => ⟨S_, .f32⟩
  | .hbm, ⟨7, _⟩ => ⟨S4096x32x256, .f32⟩
  | .hbm, ⟨8, _⟩ => ⟨S_, .i32⟩
  | .hbm, ⟨9, _⟩ => ⟨S4096x32x256, .f32⟩
  | .hbm, ⟨10, _⟩ => ⟨S_, .i32⟩
  | .hbm, ⟨11, _⟩ => ⟨S32x256, .f32⟩
  | .hbm, ⟨12, _⟩ => ⟨S4096x32x256, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1x32x256, .f32⟩
  | .hbm, ⟨18, _⟩ => ⟨S32x256, .f32⟩
  | .hbm, ⟨19, _⟩ => ⟨S_, .f32⟩
  | .hbm, ⟨20, _⟩ => ⟨S32x256, .f32⟩
  | .hbm, ⟨21, _⟩ => ⟨S32x256, .f32⟩
  | .hbm, ⟨22, _⟩ => ⟨S_, .f32⟩
  | .hbm, ⟨23, _⟩ => ⟨S32x256, .f32⟩
  | .hbm, ⟨24, _⟩ => ⟨S32x256, .f32⟩
  | .hbm, ⟨25, _⟩ => ⟨S32x256, .f32⟩
  | .hbm, ⟨26, _⟩ => ⟨S1x32x256, .f32⟩
  | .hbm, ⟨27, _⟩ => ⟨S_, .i32⟩
  | .hbm, ⟨28, _⟩ => ⟨S_, .i32⟩
  | .hbm, ⟨29, _⟩ => ⟨S4096x32x256, .f32⟩
  | .hbm, ⟨30, _⟩ => ⟨S_, .i32⟩
  | .hbm, ⟨31, _⟩ => ⟨S_, .i32⟩
  | .hbm, ⟨32, _⟩ => ⟨S32x256x4096, .f32⟩
  | .hbm, ⟨33, _⟩ => ⟨S_, .f32⟩
  | .hbm, ⟨34, _⟩ => ⟨S32x256x4096, .f32⟩
  | .hbm, ⟨35, _⟩ => ⟨S32x256x4096, .f32⟩
  | .hbm, ⟨36, _⟩ => ⟨S_, .f32⟩
  | .hbm, ⟨37, _⟩ => ⟨S32x256x4096, .f32⟩
  | .hbm, ⟨38, _⟩ => ⟨S32x256x4096, .f32⟩
  | .hbm, ⟨39, _⟩ => ⟨S32x256x4096, .f32⟩
  | .hbm, ⟨40, _⟩ => ⟨S_, .f32⟩
  | .hbm, ⟨41, _⟩ => ⟨S32x256x4096, .f32⟩
  | .hbm, ⟨42, _⟩ => ⟨S32x256x4096, .f32⟩
  | .hbm, ⟨43, _⟩ => ⟨S_, .f32⟩
  | .hbm, ⟨44, _⟩ => ⟨S32x256x4096, .f32⟩
  | .hbm, ⟨45, _⟩ => ⟨S32x256x4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S32x256x4096, .f32⟩
  | .hbm, ⟨50, _⟩ => ⟨S32x256x4096, .f32⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_c : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_while0c_c_10 : Ref sig .tc := ⟨.hbm, 13, rfl⟩
abbrev main_while0c_v19 : Ref sig .tc := ⟨.hbm, 14, rfl⟩
abbrev main_while0b_call0_c : Ref sig .tc := ⟨.hbm, 15, rfl⟩
abbrev main_while0b_call0_c_0 : Ref sig .tc := ⟨.hbm, 16, rfl⟩
abbrev main_while0b_call0_v0 : Ref sig .tc := ⟨.hbm, 17, rfl⟩
abbrev main_while0b_v19 : Ref sig .tc := ⟨.hbm, 18, rfl⟩
abbrev main_while0b_cst_10 : Ref sig .tc := ⟨.hbm, 19, rfl⟩
abbrev main_while0b_v20 : Ref sig .tc := ⟨.hbm, 20, rfl⟩
abbrev main_while0b_v21 : Ref sig .tc := ⟨.hbm, 21, rfl⟩
abbrev main_while0b_cst_11 : Ref sig .tc := ⟨.hbm, 22, rfl⟩
abbrev main_while0b_v22 : Ref sig .tc := ⟨.hbm, 23, rfl⟩
abbrev main_while0b_v23 : Ref sig .tc := ⟨.hbm, 24, rfl⟩
abbrev main_while0b_v24 : Ref sig .tc := ⟨.hbm, 25, rfl⟩
abbrev main_while0b_call1_v0 : Ref sig .tc := ⟨.hbm, 26, rfl⟩
abbrev main_while0b_call1_c : Ref sig .tc := ⟨.hbm, 27, rfl⟩
abbrev main_while0b_call1_c_0 : Ref sig .tc := ⟨.hbm, 28, rfl⟩
abbrev main_while0b_v25 : Ref sig .tc := ⟨.hbm, 29, rfl⟩
abbrev main_while0b_c_12 : Ref sig .tc := ⟨.hbm, 30, rfl⟩
abbrev main_while0b_v26 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_cst_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩
abbrev main_cst_4 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_cst_6 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩

abbrev nD : Nat := 1
abbrev τ : Topo := Topo.v7x

variable {F : FTy → Type} [FloatOps F]

abbrev main_while0_count : Scf.Loop 32 := ⟨0#32, 4096#32, 1#32⟩
-- ==== Proof.KernelIdeal.Names.lean ====
/-
  The names the proof of the pipelined kernel uses: block `b` of the input and of the output in main memory (two
  batch rows each, sixteen blocks), slot `s` of the input ring (three slots) and of the output ring (two slots), and
  each slot's semaphore — with the equations saying that the slices the printed body takes at grid point `g` are
  these: load `g` uses slot `g % 3`, store `g` slot `g % 2`.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The arrays, the rings, and their pieces -/

/-- The input array, the output array, the input ring and the output ring, each whole. -/
abbrev xM : Memref sig .tc .hbm S32x256x4096 .f32 := Memref.whole main_arg0
abbrev yM : Memref sig .tc .hbm S32x256x4096 .f32 := Memref.whole main_v0
abbrev rM : Memref sig .tc .vmem S3x2x256x4096 .f32 := Memref.whole cc0_scratch0
abbrev oM : Memref sig .tc .vmem S2x2x256x4096 .f32 := Memref.whole cc0_scratch1

abbrev blkOff (b : Fin 16) : Fin 3 → Nat := ![2 * b.val, 0, 0]
theorem blkOff_inb (b : Fin 16) : ∀ a, blkOff b a + S2x256x4096.size a ≤ S32x256x4096.size a := by
  have := b.isLt; intro a; fin_cases a
  · show 2 * b.val + 2 ≤ 32; omega
  · show 0 + 256 ≤ 256; omega
  · show 0 + 4096 ≤ 4096; omega
abbrev rOff (s : Fin 3) : Fin 4 → Nat := ![s.val, 0, 0, 0]
theorem rOff_inb (s : Fin 3) : ∀ a, rOff s a + S1x2x256x4096.size a ≤ S3x2x256x4096.size a := by
  have := s.isLt; intro a; fin_cases a
  · show s.val + 1 ≤ 3; omega
  · show 0 + 2 ≤ 2; omega
  · show 0 + 256 ≤ 256; omega
  · show 0 + 4096 ≤ 4096; omega
abbrev oOff (s : Fin 2) : Fin 4 → Nat := ![s.val, 0, 0, 0]
theorem oOff_inb (s : Fin 2) : ∀ a, oOff s a + S1x2x256x4096.size a ≤ S2x2x256x4096.size a := by
  have := s.isLt; intro a; fin_cases a
  · show s.val + 1 ≤ 2; omega
  · show 0 + 2 ≤ 2; omega
  · show 0 + 256 ≤ 256; omega
  · show 0 + 4096 ≤ 4096; omega
abbrev lOff (s : Fin 3) : Fin 1 → Nat := ![s.val]
theorem lOff_inb (s : Fin 3) : ∀ a, lOff s a + S1.size a ≤ S3.size a := by
  have := s.isLt; intro a; fin_cases a; show s.val + 1 ≤ 3; omega
abbrev sOff (s : Fin 2) : Fin 1 → Nat := ![s.val]
theorem sOff_inb (s : Fin 2) : ∀ a, sOff s a + S1.size a ≤ S2.size a := by
  have := s.isLt; intro a; fin_cases a; show s.val + 1 ≤ 2; omega

/-- Block `b` of the input: batch rows `2 b` and `2 b + 1`. -/
def xblk (b : Fin 16) : Memref sig .tc .hbm S2x256x4096 .f32 :=
  xM.slice (Rect.unit (s := S32x256x4096) (blkOff b) S2x256x4096.size (blkOff_inb b)) (fun _ => rfl)
/-- Block `b` of the output. -/
def yblk (b : Fin 16) : Memref sig .tc .hbm S2x256x4096 .f32 :=
  yM.slice (Rect.unit (s := S32x256x4096) (blkOff b) S2x256x4096.size (blkOff_inb b)) (fun _ => rfl)
/-- Slot `s` of the input ring. -/
def rslot (s : Fin 3) : Memref sig .tc .vmem S2x256x4096 .f32 :=
  (rM.slice (Rect.unit (s := S3x2x256x4096) (rOff s) S1x2x256x4096.size (rOff_inb s)) (fun _ => rfl)).squeeze S2x256x4096 squeezes_S1x2x256x4096_S2x256x4096
/-- Slot `s` of the output ring. -/
def oslot (s : Fin 2) : Memref sig .tc .vmem S2x256x4096 .f32 :=
  (oM.slice (Rect.unit (s := S2x2x256x4096) (oOff s) S1x2x256x4096.size (oOff_inb s)) (fun _ => rfl)).squeeze S2x256x4096 squeezes_S1x2x256x4096_S2x256x4096
/-- The semaphore of the input ring's slot `s`. -/
def lsm (s : Fin 3) : DmaSems sig S_ := (cc0_scratch2.slice (Rect.unit (s := S3) (lOff s) S1.size (lOff_inb s))).squeeze S_ squeezes_S1_S_
/-- The semaphore of the output ring's slot `s`. -/
def ssm (s : Fin 2) : DmaSems sig S_ := (cc0_scratch3.slice (Rect.unit (s := S2) (sOff s) S1.size (sOff_inb s))).squeeze S_ squeezes_S1_S_

instance (b : Fin 16) : ClosedOff (blkOff b) := ⟨blkOff b, rfl⟩
instance (s : Fin 3) : ClosedOff (rOff s) := ⟨rOff s, rfl⟩
instance (s : Fin 2) : ClosedOff (oOff s) := ⟨oOff s, rfl⟩

/-! ## The body's index arithmetic, over the sixteen grid points -/

/-- The grid point as a number below sixteen. -/
abbrev pt (i : grid0.Coords) : Fin 16 := i 0

theorem sl3_val (p : Nat) : (Ring.sl 3 p).val = p % 3 := by simp [Ring.sl, Fin.ofNat]
theorem sl2_val (p : Nat) : (Ring.sl 2 p).val = p % 2 := by simp [Ring.sl, Fin.ofNat]

theorem rem3 : ∀ n : Fin 16, (Scalar.remsi (BitVec.ofNat 32 n.val) 3#32).toNat = n.val % 3 := by decide
theorem rem2 : ∀ n : Fin 16, (Scalar.remsi (BitVec.ofNat 32 n.val) 2#32).toNat = n.val % 2 := by decide
theorem twice : ∀ n : Fin 16, (Scalar.muli (BitVec.ofNat 32 n.val) 2#32).toNat = 2 * n.val := by decide
theorem rem3_add3 : ∀ n : Fin 16, (Scalar.remsi (Scalar.addi (BitVec.ofNat 32 n.val) 3#32) 3#32).toNat = (n.val + 3) % 3 := by decide
theorem twice_add3 : ∀ n : Fin 16, (Scalar.muli (Scalar.addi (BitVec.ofNat 32 n.val) 3#32) 2#32).toNat = 2 * (n.val + 3) := by decide
theorem rem2_sub2 : ∀ n : Fin 16, 2 ≤ n.val → (Scalar.remsi (Scalar.subi (BitVec.ofNat 32 n.val) 2#32) 2#32).toNat = (n.val - 2) % 2 := by decide
theorem twice_sub2 : ∀ n : Fin 16, 2 ≤ n.val → (Scalar.muli (Scalar.subi (BitVec.ofNat 32 n.val) 2#32) 2#32).toNat = 2 * (n.val - 2) := by decide
theorem rem2_sub1 : ∀ n : Fin 16, 1 ≤ n.val → (Scalar.remsi (Scalar.subi (BitVec.ofNat 32 n.val) 1#32) 2#32).toNat = (n.val - 1) % 2 := by decide
theorem twice_sub1 : ∀ n : Fin 16, 1 ≤ n.val → (Scalar.muli (Scalar.subi (BitVec.ofNat 32 n.val) 1#32) 2#32).toNat = 2 * (n.val - 1) := by decide

/-- The four guards of the body, in terms of the grid point. -/
theorem cond1_iff : ∀ i : grid0.Coords, k0_cond1 i = 1#1 ↔ (pt i).val = 0 :=
  fun i => (by decide : ∀ n : Fin 16, Scalar.cmpi .ne (Scalar.extui (Scalar.cmpi .eq (BitVec.ofNat 32 n.val) 0#32) : BitVec 32) 0#32 = 1#1 ↔ n.val = 0) (pt i)
theorem cond2_iff : ∀ i : grid0.Coords, k0_cond2 i = 1#1 ↔ 2 ≤ (pt i).val :=
  fun i => (by decide : ∀ n : Fin 16, Scalar.cmpi .ne (Scalar.extui (Scalar.cmpi .sge (BitVec.ofNat 32 n.val) 2#32) : BitVec 32) 0#32 = 1#1 ↔ 2 ≤ n.val) (pt i)
theorem cond3_iff : ∀ i : grid0.Coords, k0_cond3 i = 1#1 ↔ (pt i).val < 13 :=
  fun i => (by decide : ∀ n : Fin 16, Scalar.cmpi .ne (Scalar.extui (Scalar.cmpi .slt (BitVec.ofNat 32 n.val) 13#32) : BitVec 32) 0#32 = 1#1 ↔ n.val < 13) (pt i)
theorem cond4_iff : ∀ i : grid0.Coords, k0_cond4 i = 1#1 ↔ (pt i).val = 15 :=
  fun i => (by decide : ∀ n : Fin 16, Scalar.cmpi .ne (Scalar.extui (Scalar.cmpi .eq (BitVec.ofNat 32 n.val) 15#32) : BitVec 32) 0#32 = 1#1 ↔ n.val = 15) (pt i)

section Offsets
variable (i : grid0.Coords)

theorem slot3 {n k : Nat} (h : n = k % 3) (b r c : Nat) : (![n, b, r, c] : Fin 4 → Nat) = ![(Ring.sl 3 k).val, b, r, c] := by rw [sl3_val, h]
theorem slot2 {n k : Nat} (h : n = k % 2) (b r c : Nat) : (![n, b, r, c] : Fin 4 → Nat) = ![(Ring.sl 2 k).val, b, r, c] := by rw [sl2_val, h]
theorem sem3 {n k : Nat} (h : n = k % 3) : (![n] : Fin 1 → Nat) = lOff (Ring.sl 3 k) := by unfold lOff; rw [sl3_val, h]
theorem sem2 {n k : Nat} (h : n = k % 2) : (![n] : Fin 1 → Nat) = sOff (Ring.sl 2 k) := by unfold sOff; rw [sl2_val, h]
theorem blk16 {n k : Nat} (h : n = 2 * k) (hk : k < 16) : (![n, 0, 0] : Fin 3 → Nat) = blkOff (Ring.bk 16 k) := by
  unfold blkOff; rw [Ring.bk_val hk, h]

theorem off3_eq : k0_off3 i = lOff (Ring.sl 3 (pt i).val) := sem3 (rem3 (pt i))
theorem off4_eq : k0_off4 i = rOff (Ring.sl 3 (pt i).val) := slot3 (rem3 (pt i)) 0 0 0
theorem off5_eq : k0_off5 i = blkOff (Ring.bk 16 (pt i).val) := blk16 (twice (pt i)) (pt i).isLt
theorem off6_eq (h : 2 ≤ (pt i).val) : k0_off6 i = sOff (Ring.sl 2 ((pt i).val - 2)) := sem2 (rem2_sub2 (pt i) h)
theorem off7_eq (h : 2 ≤ (pt i).val) : k0_off7 i = blkOff (Ring.bk 16 ((pt i).val - 2)) := blk16 (twice_sub2 (pt i) h) (by have := (pt i).isLt; omega)
theorem off8_eq (h : 2 ≤ (pt i).val) : k0_off8 i = oOff (Ring.sl 2 ((pt i).val - 2)) := slot2 (rem2_sub2 (pt i) h) 0 0 0
theorem off73_eq : k0_off73 i = sOff (Ring.sl 2 (pt i).val) := sem2 (rem2 (pt i))
theorem off74_eq : k0_off74 i = oOff (Ring.sl 2 (pt i).val) := slot2 (rem2 (pt i)) 0 0 0
theorem off75_eq : k0_off75 i = lOff (Ring.sl 3 ((pt i).val + 3)) := sem3 (rem3_add3 (pt i))
theorem off76_eq : k0_off76 i = rOff (Ring.sl 3 ((pt i).val + 3)) := slot3 (rem3_add3 (pt i)) 0 0 0
theorem off77_eq (h : (pt i).val + 3 < 16) : k0_off77 i = blkOff (Ring.bk 16 ((pt i).val + 3)) := blk16 (twice_add3 (pt i)) h
theorem off78_eq (h : 1 ≤ (pt i).val) : k0_off78 i = sOff (Ring.sl 2 ((pt i).val - 1)) := sem2 (rem2_sub1 (pt i) h)
theorem off79_eq (h : 1 ≤ (pt i).val) : k0_off79 i = blkOff (Ring.bk 16 ((pt i).val - 1)) := blk16 (twice_sub1 (pt i) h) (by have := (pt i).isLt; omega)
theorem off80_eq (h : 1 ≤ (pt i).val) : k0_off80 i = oOff (Ring.sl 2 ((pt i).val - 1)) := slot2 (rem2_sub1 (pt i) h) 0 0 0
theorem off81_eq : k0_off81 i = sOff (Ring.sl 2 (pt i).val) := sem2 (rem2 (pt i))
theorem off82_eq : k0_off82 i = blkOff (Ring.bk 16 (pt i).val) := blk16 (twice (pt i)) (pt i).isLt
theorem off83_eq : k0_off83 i = oOff (Ring.sl 2 (pt i).val) := slot2 (rem2 (pt i)) 0 0 0

end Offsets

/-! ## The slices the body takes are these names -/

section Canon
variable (i : grid0.Coords)

theorem lsm_congr {off : Fin 1 → Nat} {s : Fin 3} (e : off = lOff s) (hh) :
    (cc0_scratch2.slice (Rect.unit (s := S3) off S1.size hh)).squeeze S_ squeezes_S1_S_ = lsm s :=
  congrArg (fun A : DmaSems sig S1 => A.squeeze S_ squeezes_S1_S_) (SemArray.slice_unit_congr _ e _ _)
theorem ssm_congr {off : Fin 1 → Nat} {s : Fin 2} (e : off = sOff s) (hh) :
    (cc0_scratch3.slice (Rect.unit (s := S2) off S1.size hh)).squeeze S_ squeezes_S1_S_ = ssm s :=
  congrArg (fun A : DmaSems sig S1 => A.squeeze S_ squeezes_S1_S_) (SemArray.slice_unit_congr _ e _ _)
theorem rslot_congr {off : Fin 4 → Nat} {s : Fin 3} (e : off = rOff s) (hh hs) :
    (rM.slice (Rect.unit (s := S3x2x256x4096) off S1x2x256x4096.size hh) hs).squeeze S2x256x4096 squeezes_S1x2x256x4096_S2x256x4096 = rslot s :=
  congrArg (fun M : Memref sig .tc .vmem S1x2x256x4096 .f32 => M.squeeze S2x256x4096 squeezes_S1x2x256x4096_S2x256x4096) (Memref.slice_unit_congr _ e _ _ _ _)
theorem oslot_congr {off : Fin 4 → Nat} {s : Fin 2} (e : off = oOff s) (hh hs) :
    (oM.slice (Rect.unit (s := S2x2x256x4096) off S1x2x256x4096.size hh) hs).squeeze S2x256x4096 squeezes_S1x2x256x4096_S2x256x4096 = oslot s :=
  congrArg (fun M : Memref sig .tc .vmem S1x2x256x4096 .f32 => M.squeeze S2x256x4096 squeezes_S1x2x256x4096_S2x256x4096) (Memref.slice_unit_congr _ e _ _ _ _)
theorem xblk_congr {off : Fin 3 → Nat} {b : Fin 16} (e : off = blkOff b) (hh hs) :
    xM.slice (Rect.unit (s := S32x256x4096) off S2x256x4096.size hh) hs = xblk b := Memref.slice_unit_congr _ e _ _ _ (fun _ => rfl)
theorem yblk_congr {off : Fin 3 → Nat} {b : Fin 16} (e : off = blkOff b) (hh hs) :
    yM.slice (Rect.unit (s := S32x256x4096) off S2x256x4096.size hh) hs = yblk b := Memref.slice_unit_congr _ e _ _ _ (fun _ => rfl)

/-- The first point's three loads. -/
@[sl_canon] theorem lsm0 (hh) : (cc0_scratch2.slice (Rect.unit (s := S3) (k0_off1 0#32) S1.size hh)).squeeze S_ squeezes_S1_S_ = lsm 0 := lsm_congr (by decide) _
@[sl_canon] theorem lsm1 (hh) : (cc0_scratch2.slice (Rect.unit (s := S3) (k0_off1 1#32) S1.size hh)).squeeze S_ squeezes_S1_S_ = lsm 1 := lsm_congr (by decide) _
@[sl_canon] theorem lsm2 (hh) : (cc0_scratch2.slice (Rect.unit (s := S3) (k0_off1 2#32) S1.size hh)).squeeze S_ squeezes_S1_S_ = lsm 2 := lsm_congr (by decide) _
@[sl_canon] theorem rslot0 (hh hs) : (rM.slice (Rect.unit (s := S3x2x256x4096) (k0_off2 0#32) S1x2x256x4096.size hh) hs).squeeze S2x256x4096 squeezes_S1x2x256x4096_S2x256x4096 = rslot 0 := rslot_congr (by decide) _ _
@[sl_canon] theorem rslot1 (hh hs) : (rM.slice (Rect.unit (s := S3x2x256x4096) (k0_off2 1#32) S1x2x256x4096.size hh) hs).squeeze S2x256x4096 squeezes_S1x2x256x4096_S2x256x4096 = rslot 1 := rslot_congr (by decide) _ _
@[sl_canon] theorem rslot2 (hh hs) : (rM.slice (Rect.unit (s := S3x2x256x4096) (k0_off2 2#32) S1x2x256x4096.size hh) hs).squeeze S2x256x4096 squeezes_S1x2x256x4096_S2x256x4096 = rslot 2 := rslot_congr (by decide) _ _
@[sl_canon] theorem xblk0 (hh hs) : xM.slice (Rect.unit (s := S32x256x4096) ![0, 0, 0] S2x256x4096.size hh) hs = xblk 0 := xblk_congr (by decide) _ _
@[sl_canon] theorem xblk1 (hh hs) : xM.slice (Rect.unit (s := S32x256x4096) ![2, 0, 0] S2x256x4096.size hh) hs = xblk 1 := xblk_congr (by decide) _ _
@[sl_canon] theorem xblk2 (hh hs) : xM.slice (Rect.unit (s := S32x256x4096) ![4, 0, 0] S2x256x4096.size hh) hs = xblk 2 := xblk_congr (by decide) _ _

/-- The wait for load `g` and the store of block `g`. -/
@[sl_canon] theorem lsmW (hh) : (cc0_scratch2.slice (Rect.unit (s := S3) (k0_off3 i) S1.size hh)).squeeze S_ squeezes_S1_S_ = lsm (Ring.sl 3 (pt i).val) := lsm_congr (off3_eq i) _
@[sl_canon] theorem rslotW (hh hs) : (rM.slice (Rect.unit (s := S3x2x256x4096) (k0_off4 i) S1x2x256x4096.size hh) hs).squeeze S2x256x4096 squeezes_S1x2x256x4096_S2x256x4096 = rslot (Ring.sl 3 (pt i).val) := rslot_congr (off4_eq i) _ _
@[sl_canon] theorem xblkW (hh hs) : xM.slice (Rect.unit (s := S32x256x4096) (k0_off5 i) S2x256x4096.size hh) hs = xblk (Ring.bk 16 (pt i).val) := xblk_congr (off5_eq i) _ _
@[sl_canon] theorem yblkI (hh hs) : yM.slice (Rect.unit (s := S32x256x4096) (k0_off5 i) S2x256x4096.size hh) hs = yblk (Ring.bk 16 (pt i).val) := yblk_congr (off5_eq i) _ _
@[sl_canon] theorem ssmI (hh) : (cc0_scratch3.slice (Rect.unit (s := S2) (k0_off73 i) S1.size hh)).squeeze S_ squeezes_S1_S_ = ssm (Ring.sl 2 (pt i).val) := ssm_congr (off73_eq i) _
@[sl_canon] theorem oslotI (hh hs) : (oM.slice (Rect.unit (s := S2x2x256x4096) (k0_off74 i) S1x2x256x4096.size hh) hs).squeeze S2x256x4096 squeezes_S1x2x256x4096_S2x256x4096 = oslot (Ring.sl 2 (pt i).val) := oslot_congr (off74_eq i) _ _

/-- The wait for store `g - 2`. -/
@[sl_canon] theorem ssmW (h : 2 ≤ (pt i).val) (hh) : (cc0_scratch3.slice (Rect.unit (s := S2) (k0_off6 i) S1.size hh)).squeeze S_ squeezes_S1_S_ = ssm (Ring.sl 2 ((pt i).val - 2)) := ssm_congr (off6_eq i h) _
@[sl_canon] theorem yblkW (h : 2 ≤ (pt i).val) (hh hs) : yM.slice (Rect.unit (s := S32x256x4096) (k0_off7 i) S2x256x4096.size hh) hs = yblk (Ring.bk 16 ((pt i).val - 2)) := yblk_congr (off7_eq i h) _ _
@[sl_canon] theorem oslotW (h : 2 ≤ (pt i).val) (hh hs) : (oM.slice (Rect.unit (s := S2x2x256x4096) (k0_off8 i) S1x2x256x4096.size hh) hs).squeeze S2x256x4096 squeezes_S1x2x256x4096_S2x256x4096 = oslot (Ring.sl 2 ((pt i).val - 2)) := oslot_congr (off8_eq i h) _ _

/-- Load `g + 3`. -/
@[sl_canon] theorem lsmI (hh) : (cc0_scratch2.slice (Rect.unit (s := S3) (k0_off75 i) S1.size hh)).squeeze S_ squeezes_S1_S_ = lsm (Ring.sl 3 ((pt i).val + 3)) := lsm_congr (off75_eq i) _
@[sl_canon] theorem rslotI (hh hs) : (rM.slice (Rect.unit (s := S3x2x256x4096) (k0_off76 i) S1x2x256x4096.size hh) hs).squeeze S2x256x4096 squeezes_S1x2x256x4096_S2x256x4096 = rslot (Ring.sl 3 ((pt i).val + 3)) := rslot_congr (off76_eq i) _ _
@[sl_canon] theorem xblkI (h : (pt i).val + 3 < 16) (hh hs) : xM.slice (Rect.unit (s := S32x256x4096) (k0_off77 i) S2x256x4096.size hh) hs = xblk (Ring.bk 16 ((pt i).val + 3)) := xblk_congr (off77_eq i h) _ _

/-- The last point's two waits, for stores `g - 1` and `g`. -/
@[sl_canon] theorem ssmE (h : 1 ≤ (pt i).val) (hh) : (cc0_scratch3.slice (Rect.unit (s := S2) (k0_off78 i) S1.size hh)).squeeze S_ squeezes_S1_S_ = ssm (Ring.sl 2 ((pt i).val - 1)) := ssm_congr (off78_eq i h) _
@[sl_canon] theorem yblkE (h : 1 ≤ (pt i).val) (hh hs) : yM.slice (Rect.unit (s := S32x256x4096) (k0_off79 i) S2x256x4096.size hh) hs = yblk (Ring.bk 16 ((pt i).val - 1)) := yblk_congr (off79_eq i h) _ _
@[sl_canon] theorem oslotE (h : 1 ≤ (pt i).val) (hh hs) : (oM.slice (Rect.unit (s := S2x2x256x4096) (k0_off80 i) S1x2x256x4096.size hh) hs).squeeze S2x256x4096 squeezes_S1x2x256x4096_S2x256x4096 = oslot (Ring.sl 2 ((pt i).val - 1)) := oslot_congr (off80_eq i h) _ _
@[sl_canon] theorem ssmF (hh) : (cc0_scratch3.slice (Rect.unit (s := S2) (k0_off81 i) S1.size hh)).squeeze S_ squeezes_S1_S_ = ssm (Ring.sl 2 (pt i).val) := ssm_congr (off81_eq i) _
@[sl_canon] theorem yblkF (hh hs) : yM.slice (Rect.unit (s := S32x256x4096) (k0_off82 i) S2x256x4096.size hh) hs = yblk (Ring.bk 16 (pt i).val) := yblk_congr (off82_eq i) _ _
@[sl_canon] theorem oslotF (hh hs) : (oM.slice (Rect.unit (s := S2x2x256x4096) (k0_off83 i) S1x2x256x4096.size hh) hs).squeeze S2x256x4096 squeezes_S1x2x256x4096_S2x256x4096 = oslot (Ring.sl 2 (pt i).val) := oslot_congr (off83_eq i) _ _

end Canon

end Cert.KernelIdeal.Ring
-- ==== Proof.KernelIdeal.Chunks.lean ====
/-
  The body of the pipelined kernel as a head, thirty-two equal chunk steps and a tail. The printed body is unrolled;
  each chunk step loads one 256 × 256 chunk of the input slot, scans it by one matrix product with the carried last
  column of the chunk before, and stores the compressed chunk into the output slot. `body_eq` says that the printed
  body is this program.
-/
module

public import proofs.«01_k».proof.Proof.KernelIdeal.Names

@[expose] public section

noncomputable section

namespace Cert.KernelIdeal.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UU (nD : Nat) (τ : Topo) : Type := UR sig nD τ × Counters
local notation "𝕄" => MT nD τ sig Unit (Elt F) ℕ (UU nD τ) ℕ
abbrev 𝒱₀ : Variants := Variants.none

/-! ## One chunk -/

/-- The compression's additive constant `eps`. -/
abbrev epsW : F .f32 := Scalar.ofBits .f32 0x358637BD#32
/-- The carry a row block starts from: zero. -/
abbrev zeroCarry : FVec F S256x1 .f32 := broadcast S256x1 (Scalar.ofBits .f32 0x00000000#32)
/-- The scanned chunk: the product with the lower-triangular table `L` plus the carried column, decayed. -/
abbrev mOf (L : Vec F S256x256 .f32) (carry : FVec F S256x1 .f32) (x : Vec F S1x1x256x256 .f32) : FVec F S256x256 .f32 :=
  k0_pay9 (k0_pay2 L) (k0_pay3 L) carry x
/-- Its last column, carried into the next chunk. -/
abbrev carryOf (L : Vec F S256x256 .f32) (carry : FVec F S256x1 .f32) (x : Vec F S1x1x256x256 .f32) : FVec F S256x1 .f32 :=
  k0_pay10 (k0_pay2 L) (k0_pay3 L) carry x
/-- The compressed chunk. -/
abbrev outOf (L : Vec F S256x256 .f32) (carry : FVec F S256x1 .f32) (x : Vec F S1x1x256x256 .f32) : FVec F S1x1x256x256 .f32 :=
  k0_pay7 (k0_pay8 x) (mOf L carry x) epsW

/-! ## Where a chunk lies in its slot -/

abbrev cOff (v : Nat) (b : Fin 2) (k : Fin 16) : Fin 4 → Nat := ![v, b.val, 0, 256 * k.val]
theorem cOff3_inb {v : Nat} (h : v < 3) (b : Fin 2) (k : Fin 16) : ∀ a, cOff v b k a + S1x1x256x256.size a ≤ S3x2x256x4096.size a := by
  have := b.isLt; have := k.isLt; intro a; fin_cases a
  · show v + 1 ≤ 3; omega
  · show b.val + 1 ≤ 2; omega
  · show 0 + 256 ≤ 256; omega
  · show 256 * k.val + 256 ≤ 4096; omega
theorem cOff2_inb {v : Nat} (h : v < 2) (b : Fin 2) (k : Fin 16) : ∀ a, cOff v b k a + S1x1x256x256.size a ≤ S2x2x256x4096.size a := by
  have := b.isLt; have := k.isLt; intro a; fin_cases a
  · show v + 1 ≤ 2; omega
  · show b.val + 1 ≤ 2; omega
  · show 0 + 256 ≤ 256; omega
  · show 256 * k.val + 256 ≤ 4096; omega
/-- Chunk `(b, k)` of slot `v` of the input ring, and of the output ring. -/
abbrev rRect {v : Nat} (h : v < 3) (b : Fin 2) (k : Fin 16) : Rect S3x2x256x4096 := Rect.unit (s := S3x2x256x4096) (cOff v b k) S1x1x256x256.size (cOff3_inb h b k)
abbrev oRect {v : Nat} (h : v < 2) (b : Fin 2) (k : Fin 16) : Rect S2x2x256x4096 := Rect.unit (s := S2x2x256x4096) (cOff v b k) S1x1x256x256.size (cOff2_inb h b k)

/-! ## The chunk steps as a program -/

/-- The steps of the listed chunks of row block `b`, from a carry. -/
def rowProg (L : Vec F S256x256 .f32) {v0 v1 : Nat} (h0 : v0 < 3) (h1 : v1 < 2) (b : Fin 2) : List (Fin 16) → FVec F S256x1 .f32 → Prog (TpuEff nD τ sig (Elt F) Λ₀ .tc) PUnit
  | [], _ => .ret ⟨⟩
  | k :: ks, carry =>
    .op (.load rM (rRect h0 b k).toLoadRect (View.loadsAt_vmem h_S1x1x256x256)) fun x : Vec F S1x1x256x256 .f32 =>
    .op (.load oM (oRect h1 b k).toLoadRect (View.loadsAt_vmem h_S1x1x256x256)) fun _ : Vec F S1x1x256x256 .f32 =>
    .op (.store oM (oRect h1 b k) (outOf L carry x) Finset.univ (View.stores_vmem_bits_univ h_S1x1x256x256 rfl) (.inl rfl)) fun _ =>
    rowProg L h0 h1 b ks (carryOf L carry x)

/-- The sixteen chunks of a row, in order. -/
abbrev chunks : List (Fin 16) := [0, 1, 2, 3, 4, 5, 6, 7, 8, 9, 10, 11, 12, 13, 14, 15]

section Body
variable (i : grid0.Coords) (a2 : Memref sig .tc .vmem S256x256 .f32) (h2 : a2.IsWhole)

abbrev rsl : Nat := (Scalar.indexCast (Scalar.remsi (BitVec.ofNat 32 (i 0).val) 3#32)).toNat
abbrev osl : Nat := (Scalar.indexCast (Scalar.remsi (BitVec.ofNat 32 (i 0).val) 2#32)).toNat
theorem rsl_eq : rsl i = (Ring.sl 3 (pt i).val).val := (rem3 (pt i)).trans (sl3_val _).symm
theorem osl_eq : osl i = (Ring.sl 2 (pt i).val).val := (rem2 (pt i)).trans (sl2_val _).symm
theorem rsl_lt : rsl i < 3 := rsl_eq i ▸ Fin.isLt _
theorem osl_lt : osl i < 2 := osl_eq i ▸ Fin.isLt _

/-- All the chunks of grid point `i`: both batch rows of the block. -/
def chunkProg (L : Vec F S256x256 .f32) : Prog (TpuEff nD τ sig (Elt F) Λ₀ .tc) PUnit :=
  rowProg L (rsl_lt i) (osl_lt i) 0 chunks zeroCarry >>= fun _ =>
  rowProg L (rsl_lt i) (osl_lt i) 1 chunks zeroCarry

/-- Before the chunks: the first point starts loads 0, 1 and 2; load `i` is awaited; from point 2 on store `i - 2`
    is awaited; the table is read. -/
def headProg : Prog (TpuEff nD τ sig (Elt F) Λ₀ .tc) (Vec F S256x256 .f32) := do
  if k0_h1 : k0_cond1 i = 1#1 then do
    let v966 : DmaSems sig S1 := cc0_scratch2.slice (Rect.unit (s := S3) (k0_off1 0#32) S1.size (k0_off1_inb i k0_h1 0))
    let v967 : DmaSems sig S_ := v966.squeeze S_ squeezes_S1_S_
    let v968 : Memref sig .tc .vmem S1x2x256x4096 .f32 := rM.slice (Rect.unit (s := S3x2x256x4096) (k0_off2 0#32) S1x2x256x4096.size (k0_off2_inb i k0_h1 0)) (fun _ => rfl)
    let v969 : Memref sig .tc .vmem S2x256x4096 .f32 := v968.squeeze S2x256x4096 squeezes_S1x2x256x4096_S2x256x4096
    let v970 : Memref sig .tc .hbm S2x256x4096 .f32 := xM.slice (Rect.unit (s := S32x256x4096) ![0, 0, 0] S2x256x4096.size inb_S32x256x4096_S2x256x4096_0_0_0) (fun _ => rfl)
    Prog.lift (.enqueueDma v970 (.here v969) (.dma v967.sem) (View.wordExact_bits rfl) ((View.wordExact_bits rfl).reshape _ _) ⟨Or.inl rfl, trivial⟩)
    let v973 : DmaSems sig S1 := cc0_scratch2.slice (Rect.unit (s := S3) (k0_off1 1#32) S1.size (k0_off1_inb i k0_h1 1))
    let v974 : DmaSems sig S_ := v973.squeeze S_ squeezes_S1_S_
    let v975 : Memref sig .tc .vmem S1x2x256x4096 .f32 := rM.slice (Rect.unit (s := S3x2x256x4096) (k0_off2 1#32) S1x2x256x4096.size (k0_off2_inb i k0_h1 1)) (fun _ => rfl)
    let v976 : Memref sig .tc .vmem S2x256x4096 .f32 := v975.squeeze S2x256x4096 squeezes_S1x2x256x4096_S2x256x4096
    let v977 : Memref sig .tc .hbm S2x256x4096 .f32 := xM.slice (Rect.unit (s := S32x256x4096) ![2, 0, 0] S2x256x4096.size inb_S32x256x4096_S2x256x4096_2_0_0) (fun _ => rfl)
    Prog.lift (.enqueueDma v977 (.here v976) (.dma v974.sem) (View.wordExact_bits rfl) ((View.wordExact_bits rfl).reshape _ _) ⟨Or.inl rfl, trivial⟩)
    let v980 : DmaSems sig S1 := cc0_scratch2.slice (Rect.unit (s := S3) (k0_off1 2#32) S1.size (k0_off1_inb i k0_h1 2))
    let v981 : DmaSems sig S_ := v980.squeeze S_ squeezes_S1_S_
    let v982 : Memref sig .tc .vmem S1x2x256x4096 .f32 := rM.slice (Rect.unit (s := S3x2x256x4096) (k0_off2 2#32) S1x2x256x4096.size (k0_off2_inb i k0_h1 2)) (fun _ => rfl)
    let v983 : Memref sig .tc .vmem S2x256x4096 .f32 := v982.squeeze S2x256x4096 squeezes_S1x2x256x4096_S2x256x4096
    let v984 : Memref sig .tc .hbm S2x256x4096 .f32 := xM.slice (Rect.unit (s := S32x256x4096) ![4, 0, 0] S2x256x4096.size inb_S32x256x4096_S2x256x4096_4_0_0) (fun _ => rfl)
    Prog.lift (.enqueueDma v984 (.here v983) (.dma v981.sem) (View.wordExact_bits rfl) ((View.wordExact_bits rfl).reshape _ _) ⟨Or.inl rfl, trivial⟩)
    pure ⟨⟩
  else do
    pure ⟨⟩
  let v8 : DmaSems sig S1 := cc0_scratch2.slice (Rect.unit (s := S3) (k0_off3 i) S1.size (k0_off3_inb i))
  let v9 : DmaSems sig S_ := v8.squeeze S_ squeezes_S1_S_
  let v10 : Memref sig .tc .vmem S1x2x256x4096 .f32 := rM.slice (Rect.unit (s := S3x2x256x4096) (k0_off4 i) S1x2x256x4096.size (k0_off4_inb i)) (fun _ => rfl)
  let v11 : Memref sig .tc .vmem S2x256x4096 .f32 := v10.squeeze S2x256x4096 squeezes_S1x2x256x4096_S2x256x4096
  let v12 : Memref sig .tc .hbm S2x256x4096 .f32 := xM.slice (Rect.unit (s := S32x256x4096) (k0_off5 i) S2x256x4096.size (k0_off5_inb i)) (fun _ => rfl)
  Prog.lift (.waitDma2 v9.sem v12 v11 (View.wordExact_bits rfl) ((View.wordExact_bits rfl).reshape _ _))
  if k0_h2 : k0_cond2 i = 1#1 then do
    let v968 : DmaSems sig S1 := cc0_scratch3.slice (Rect.unit (s := S2) (k0_off6 i) S1.size (k0_off6_inb i k0_h2))
    let v969 : DmaSems sig S_ := v968.squeeze S_ squeezes_S1_S_
    let v970 : Memref sig .tc .hbm S2x256x4096 .f32 := yM.slice (Rect.unit (s := S32x256x4096) (k0_off7 i) S2x256x4096.size (k0_off7_inb i k0_h2)) (fun _ => rfl)
    let v971 : Memref sig .tc .vmem S1x2x256x4096 .f32 := oM.slice (Rect.unit (s := S2x2x256x4096) (k0_off8 i) S1x2x256x4096.size (k0_off8_inb i k0_h2)) (fun _ => rfl)
    let v972 : Memref sig .tc .vmem S2x256x4096 .f32 := v971.squeeze S2x256x4096 squeezes_S1x2x256x4096_S2x256x4096
    Prog.lift (.waitDma2 v969.sem v972 v970 ((View.wordExact_bits rfl).reshape _ _) (View.wordExact_bits rfl))
    pure ⟨⟩
  else do
    pure ⟨⟩
  Prog.lift (.load a2 (Rect.unit (s := S256x256) ![0, 0] S256x256.size inb_S256x256_S256x256_0_0).toLoadRect (View.loadsAt_vmem h_S256x256))

/-- After the chunks: store `i` is started, then load `i + 3` while there is one. -/
def tailProg : Prog (TpuEff nD τ sig (Elt F) Λ₀ .tc) (BitVec 32) := do
  let v953 : DmaSems sig S1 := cc0_scratch3.slice (Rect.unit (s := S2) (k0_off73 i) S1.size (k0_off73_inb i))
  let v954 : DmaSems sig S_ := v953.squeeze S_ squeezes_S1_S_
  let v955 : Memref sig .tc .hbm S2x256x4096 .f32 := yM.slice (Rect.unit (s := S32x256x4096) (k0_off5 i) S2x256x4096.size (k0_off5_inb i)) (fun _ => rfl)
  let v956 : Memref sig .tc .vmem S1x2x256x4096 .f32 := oM.slice (Rect.unit (s := S2x2x256x4096) (k0_off74 i) S1x2x256x4096.size (k0_off74_inb i)) (fun _ => rfl)
  let v957 : Memref sig .tc .vmem S2x256x4096 .f32 := v956.squeeze S2x256x4096 squeezes_S1x2x256x4096_S2x256x4096
  Prog.lift (.enqueueDma v957 (.here v955) (.dma v954.sem) ((View.wordExact_bits rfl).reshape _ _) (View.wordExact_bits rfl) ⟨Or.inl rfl, trivial⟩)
  if k0_h3 : k0_cond3 i = 1#1 then do
    let v968 : DmaSems sig S1 := cc0_scratch2.slice (Rect.unit (s := S3) (k0_off75 i) S1.size (k0_off75_inb i k0_h3))
    let v969 : DmaSems sig S_ := v968.squeeze S_ squeezes_S1_S_
    let v970 : Memref sig .tc .vmem S1x2x256x4096 .f32 := rM.slice (Rect.unit (s := S3x2x256x4096) (k0_off76 i) S1x2x256x4096.size (k0_off76_inb i k0_h3)) (fun _ => rfl)
    let v971 : Memref sig .tc .vmem S2x256x4096 .f32 := v970.squeeze S2x256x4096 squeezes_S1x2x256x4096_S2x256x4096
    let v972 : Memref sig .tc .hbm S2x256x4096 .f32 := xM.slice (Rect.unit (s := S32x256x4096) (k0_off77 i) S2x256x4096.size (k0_off77_inb i k0_h3)) (fun _ => rfl)
    Prog.lift (.enqueueDma v972 (.here v971) (.dma v969.sem) (View.wordExact_bits rfl) ((View.wordExact_bits rfl).reshape _ _) ⟨Or.inl rfl, trivial⟩)
    pure ⟨⟩
  else do
    pure ⟨⟩
  pure (BitVec.ofNat 32 (i 0).val)

/-- The last point awaits the two stores still in flight. -/
def lastProg : Prog (TpuEff nD τ sig (Elt F) Λ₀ .tc) PUnit := do
  if k0_h4 : k0_cond4 i = 1#1 then do
    let v968 : DmaSems sig S1 := cc0_scratch3.slice (Rect.unit (s := S2) (k0_off78 i) S1.size (k0_off78_inb i k0_h4))
    let v969 : DmaSems sig S_ := v968.squeeze S_ squeezes_S1_S_
    let v970 : Memref sig .tc .hbm S2x256x4096 .f32 := yM.slice (Rect.unit (s := S32x256x4096) (k0_off79 i) S2x256x4096.size (k0_off79_inb i k0_h4)) (fun _ => rfl)
    let v971 : Memref sig .tc .vmem S1x2x256x4096 .f32 := oM.slice (Rect.unit (s := S2x2x256x4096) (k0_off80 i) S1x2x256x4096.size (k0_off80_inb i k0_h4)) (fun _ => rfl)
    let v972 : Memref sig .tc .vmem S2x256x4096 .f32 := v971.squeeze S2x256x4096 squeezes_S1x2x256x4096_S2x256x4096
    Prog.lift (.waitDma2 v969.sem v972 v970 ((View.wordExact_bits rfl).reshape _ _) (View.wordExact_bits rfl))
    let v976 : DmaSems sig S1 := cc0_scratch3.slice (Rect.unit (s := S2) (k0_off81 i) S1.size (k0_off81_inb i k0_h4))
    let v977 : DmaSems sig S_ := v976.squeeze S_ squeezes_S1_S_
    let v978 : Memref sig .tc .hbm S2x256x4096 .f32 := yM.slice (Rect.unit (s := S32x256x4096) (k0_off82 i) S2x256x4096.size (k0_off82_inb i k0_h4)) (fun _ => rfl)
    let v979 : Memref sig .tc .vmem S1x2x256x4096 .f32 := oM.slice (Rect.unit (s := S2x2x256x4096) (k0_off83 i) S1x2x256x4096.size (k0_off83_inb i k0_h4)) (fun _ => rfl)
    let v980 : Memref sig .tc .vmem S2x256x4096 .f32 := v979.squeeze S2x256x4096 squeezes_S1x2x256x4096_S2x256x4096
    Prog.lift (.waitDma2 v977.sem v980 v978 ((View.wordExact_bits rfl).reshape _ _) (View.wordExact_bits rfl))
    pure ⟨⟩
  else do
    pure ⟨⟩
  pure ⟨⟩

theorem part1_eq : k0_part1 (F := F) i xM (Memref.isWhole_whole _) a2 h2 yM (Memref.isWhole_whole _) rM (Memref.isWhole_whole _) oM (Memref.isWhole_whole _) cc0_scratch2 cc0_scratch3
    = headProg i a2 >>= fun L => .op (.load rM (rRect (rsl_lt i) 0 0).toLoadRect (View.loadsAt_vmem h_S1x1x256x256)) fun x : Vec F S1x1x256x256 .f32 =>
      .ret ⟨BitVec.ofNat 32 (i 0).val, Scalar.remsi (BitVec.ofNat 32 (i 0).val) 3#32, Scalar.remsi (BitVec.ofNat 32 (i 0).val) 2#32, k0_pay2 L, k0_pay3 L, k0_pay4 x, k0_pay5 L x, k0_pay6 L x, epsW⟩ := by
  rw [k0_part1_eq_skeleton]
  unfold k0_part1_skel headProg
  by_cases h1 : k0_cond1 i = 1#1 <;> by_cases h2 : k0_cond2 i = 1#1 <;> simp only [h1, h2, dif_pos, dif_neg, not_false_eq_true] <;> rfl

set_option maxRecDepth 65536 in
set_option maxHeartbeats 4000000 in
theorem part24_eq : k0_part24 (F := F) i xM (Memref.isWhole_whole _) a2 h2 yM (Memref.isWhole_whole _) rM (Memref.isWhole_whole _) oM (Memref.isWhole_whole _) cc0_scratch2 cc0_scratch3
    = headProg i a2 >>= fun L => chunkProg i L >>= fun _ => tailProg i := by
  rw [k0_part24_eq_skeleton]
  unfold k0_part24_skel
  rw [part1_eq, bind_assoc]
  refine congrArg (headProg i a2 >>= ·) (funext fun L => ?_)
  rfl

theorem body_eq : cc0__pcen_kernel (F := F) i xM (Memref.isWhole_whole _) a2 h2 yM (Memref.isWhole_whole _) rM (Memref.isWhole_whole _) oM (Memref.isWhole_whole _) cc0_scratch2 cc0_scratch3
    = headProg i a2 >>= fun L => chunkProg i L >>= fun _ => tailProg i >>= fun _ => lastProg i := by
  rw [cc0__pcen_kernel_eq_skeleton]
  unfold cc0__pcen_kernel_skel lastProg
  rw [part24_eq]
  simp only [bind_assoc]

end Body

end Cert.KernelIdeal.Ring
-- ==== Proof.KernelIdeal.Row.lean ====
/-
  One row block of chunk steps, run: the input slot is read, the output slot ends at the chunk steps' stores
  (`rowOut`), and reading the output slot after both row blocks gives the compressed block (`outBlock`) as a function
  of the block in the input slot alone.
-/
module

public import proofs.«01_k».proof.Proof.KernelIdeal.Chunks
public import Idealize.ShloMosaic.Lib.WritesUnit
public import Idealize.ShloMosaic.Lib.VecWindow
public import Idealize.ShloMosaic.Lib.ValueLayout

@[expose] public section

noncomputable section

namespace Cert.KernelIdeal.Ring

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-! ## The chunk steps' elements lie in the slots -/

theorem set_rslot (s : Fin 3) : (rslot s).view.set = (rM.slice (Rect.unit (s := S3x2x256x4096) (rOff s) S1x2x256x4096.size (rOff_inb s)) (fun _ => rfl)).view.set :=
  View.set_reshape _ _
theorem set_oslot (s : Fin 2) : (oslot s).view.set = (oM.slice (Rect.unit (s := S2x2x256x4096) (oOff s) S1x2x256x4096.size (oOff_inb s)) (fun _ => rfl)).view.set :=
  View.set_reshape _ _

theorem rChunk_sub {v : Nat} (h : v < 3) (s : Fin 3) (hs : v = s.val) (b : Fin 2) (k : Fin 16) :
    rM.view.setOn (rRect h b k).toLoadRect.set ⊆ (rslot s).view.set := by
  rw [set_rslot]
  refine Memref.setOn_subset_slice_of_within rM _ _ _ ?_
  subst hs
  have := b.isLt; have := k.isLt
  simp only [LoadRect.within, decide_eq_true_eq]
  intro a; fin_cases a <;> simp [rRect, rOff, cOff, Rect.unit, Rect.toLoadRect] <;> omega

theorem oChunk_sub {v : Nat} (h : v < 2) (s : Fin 2) (hs : v = s.val) (b : Fin 2) (k : Fin 16) (Mk : Finset (oRect h b k).shape.Idx) :
    (oM.access (oRect h b k)).setOn Mk ⊆ (oslot s).view.set := by
  rw [set_oslot]
  refine Memref.setOn_access_subset_slice_of_within oM _ _ _ _ ?_
  subst hs
  have := b.isLt; have := k.isLt
  simp only [LoadRect.within, decide_eq_true_eq]
  intro a; fin_cases a <;> simp [oRect, oOff, cOff, Rect.unit, Rect.toLoadRect] <;> omega

theorem oChunkL_sub {v : Nat} (h : v < 2) (s : Fin 2) (hs : v = s.val) (b : Fin 2) (k : Fin 16) :
    oM.view.setOn (oRect h b k).toLoadRect.set ⊆ (oslot s).view.set := by
  rw [set_oslot]
  refine Memref.setOn_subset_slice_of_within oM _ _ _ ?_
  subst hs
  have := b.isLt; have := k.isLt
  simp only [LoadRect.within, decide_eq_true_eq]
  intro a; fin_cases a <;> simp [oRect, oOff, cOff, Rect.unit, Rect.toLoadRect] <;> omega

/-! ## Running a row block -/

section Row
variable (L : Vec F S256x256 .f32) {v0 v1 : Nat} (h0 : v0 < 3) (h1 : v1 < 2) (b : Fin 2)

/-- The chunk the step `k` loads. -/
abbrev xAt (fx : rM.view.ty.Contents (Elt F)) (k : Fin 16) : Vec F S1x1x256x256 .f32 := rM.view.readAt (Elt F) (rRect h0 b k).toLoadRect fx

/-- The output ring after the listed chunk steps. -/
def rowOut (fx : rM.view.ty.Contents (Elt F)) : List (Fin 16) → FVec F S256x1 .f32 → oM.view.ty.Contents (Elt F) → oM.view.ty.Contents (Elt F)
  | [], _, fo => fo
  | k :: ks, carry, fo => rowOut fx ks (carryOf L carry (xAt h0 b fx k)) ((oM.access (oRect h1 b k)).write (Elt F) fo (outOf L carry (xAt h0 b fx k)) Finset.univ)

theorem rowProg_spec (c : Dev nD) (s : Fin 3) (hs : v0 = s.val) (s' : Fin 2) (hs' : v1 = s'.val) (fx : rM.view.ty.Contents (Elt F))
    (Q : PUnit → sProp 𝕄) : ∀ (ks : List (Fin 16)) (carry : FVec F S256x1 .f32) (fo : oM.view.ty.Contents (Elt F)),
    iprop((rM.view.loc (c : Thread nD τ) ↦[(rslot s).view.set]{fullShare} fx) ∗ (oM.view.loc (c : Thread nD τ) ↦[(oslot s').view.set]{fullShare} fo)
      ∗ (((rM.view.loc (c : Thread nD τ) ↦[(rslot s).view.set]{fullShare} fx) ∗ (oM.view.loc (c : Thread nD τ) ↦[(oslot s').view.set]{fullShare} (rowOut L h0 h1 b fx ks carry fo))) -∗ Q ⟨⟩))
    ⊢ wp frame (wpE (defs₀ (F := F)) 𝒱₀ (c : Thread nD τ) none) Set.univ (rowProg L h0 h1 b ks carry) Q
  | [], carry, fo => by
    iintro ⟨Hx, Ho, Hk⟩
    unfold rowProg rowOut
    sl_step
    iapply Hk
    isplitl [Hx]; · iexact Hx
    iexact Ho
  | k :: ks, carry, fo => by
    iintro ⟨Hx, Ho, Hk⟩
    unfold rowProg rowOut
    iapply (wp_load 𝒱₀ (c : Thread nD τ) none Set.univ (m := rM) (rChunk_sub h0 s hs b k)) $$ Hx; iintro Hx
    iapply (wp_load 𝒱₀ (c : Thread nD τ) none Set.univ (m := oM) (oChunkL_sub h1 s' hs' b k)) $$ Ho; iintro Ho
    iapply (wp_store 𝒱₀ (c : Thread nD τ) none Set.univ (m := oM) (r := oRect h1 b k) (Mk := Finset.univ) (oChunk_sub h1 s' hs' b k _)) $$ Ho; iintro Ho
    iapply (rowProg_spec c s hs s' hs' fx Q ks _ _)
    isplitl [Hx]; · iexact Hx
    isplitl [Ho]; · iexact Ho
    iexact Hk

end Row

/-! ## What the chunk steps compute, as a function of the block in the input slot -/

/-- Chunk `k` of row `b` of a block. -/
def chunkOf (X : Vec F S2x256x4096 .f32) (b : Fin 2) (k : Fin 16) : Vec F S1x1x256x256 .f32 := fun y =>
  X (ix3 b (y 2) ⟨256 * k.val + (y 3).val, by have h := (y 3).isLt; have := k.isLt; simp at h; omega⟩)

/-- The carry before chunk `n` of row `b`. -/
def carryAt (L : Vec F S256x256 .f32) (X : Vec F S2x256x4096 .f32) (b : Fin 2) : Nat → FVec F S256x1 .f32
  | 0 => zeroCarry
  | n + 1 => carryOf L (carryAt L X b n) (chunkOf X b (Fin.ofNat 16 n))

/-- The compressed block. -/
def outBlock (L : Vec F S256x256 .f32) (X : Vec F S2x256x4096 .f32) : Vec F S2x256x4096 .f32 := fun j =>
  outOf L (carryAt L X (j 0) ((j 2).val / 256)) (chunkOf X (j 0) ⟨(j 2).val / 256, by have h := (j 2).isLt; simp at h; omega⟩)
    (ix4 (0 : Fin 1) (0 : Fin 1) (j 1) (⟨(j 2).val % 256, by omega⟩ : Fin 256))

/-- A slot's view reads the ring at the slot's number. -/
theorem read_rslot (s : Fin 3) (f : rM.view.ty.Contents (Elt F)) (b : Fin 2) (r : Fin 256) (t : Fin 4096) :
    (rslot s).view.read (Elt F) f (ix3 b r t) = rM.view.read (Elt F) f (ix4 s b r t) := by
  refine congrArg (rM.view.read (Elt F) f) (?_ : (Rect.unit (s := S3x2x256x4096) (rOff s) S1x2x256x4096.size (rOff_inb s)).emb (Shape.reshapeEquiv _ (ix3 b r t)) = _)
  rw [reshapeEquiv_ix3_1abc]
  funext a; fin_cases a <;> refine Fin.ext ?_ <;> simp [Rect.emb, Rect.unit, rOff, ix4]
theorem read_oslot (s : Fin 2) (f : oM.view.ty.Contents (Elt F)) (b : Fin 2) (r : Fin 256) (t : Fin 4096) :
    (oslot s).view.read (Elt F) f (ix3 b r t) = oM.view.read (Elt F) f (ix4 s b r t) := by
  refine congrArg (oM.view.read (Elt F) f) (?_ : (Rect.unit (s := S2x2x256x4096) (oOff s) S1x2x256x4096.size (oOff_inb s)).emb (Shape.reshapeEquiv _ (ix3 b r t)) = _)
  rw [reshapeEquiv_ix3_1abc]
  funext a; fin_cases a <;> refine Fin.ext ?_ <;> simp [Rect.emb, Rect.unit, oOff, ix4]

theorem xAt_eq {v0 : Nat} (h0 : v0 < 3) (s : Fin 3) (hs : v0 = s.val) (b : Fin 2) (fx : rM.view.ty.Contents (Elt F)) (k : Fin 16) :
    xAt h0 b fx k = chunkOf ((rslot s).view.read (Elt F) fx) b k := by
  subst hs
  funext y
  refine Eq.trans ?_ (read_rslot s fx b (y 2) _).symm
  refine congrArg (rM.view.read (Elt F) fx) ?_
  have h0 : (y 0).val = 0 := by have h := (y 0).isLt; simp at h; omega
  have h1 : (y 1).val = 0 := by have h := (y 1).isLt; simp at h; omega
  funext a; fin_cases a <;> refine Fin.ext ?_ <;> simp [Rect.toLoadRect, LoadRect.idx, Rect.unit, cOff, ix4] <;> omega

section Out
variable (L : Vec F S256x256 .f32) {v0 v1 : Nat} (h0 : v0 < 3) (h1 : v1 < 2) (b : Fin 2) (fx : rM.view.ty.Contents (Elt F))

/-- Steps of the other row, or of other chunks, leave an element of the output slot as it was. -/
theorem rowOut_other (s' : Fin 2) (hs' : v1 = s'.val) (b' : Fin 2) (r : Fin 256) (t : Fin 4096) :
    ∀ (ks : List (Fin 16)) (carry : FVec F S256x1 .f32) (fo : oM.view.ty.Contents (Elt F)), (b' ≠ b ∨ ∀ k ∈ ks, t.val / 256 ≠ k.val) →
      oM.view.read (Elt F) (rowOut L h0 h1 b fx ks carry fo) (ix4 s' b' r t) = oM.view.read (Elt F) fo (ix4 s' b' r t)
  | [], _, _, _ => rfl
  | k :: ks, carry, fo, h => by
    unfold rowOut
    rw [rowOut_other s' hs' b' r t ks _ _ (h.imp_right fun h k hk => h k (List.mem_cons_of_mem _ hk))]
    rcases h with h | h
    · refine View.read_writes_cons_unit_of_not_mem oM.view fo (cOff2_inb h1 b k) _ [] _ rfl 1 ?_
      have := b.isLt; have := b'.isLt; have : b'.val ≠ b.val := fun e => h (Fin.ext e)
      show b'.val < b.val ∨ b.val + 1 ≤ b'.val; omega
    · refine View.read_writes_cons_unit_of_not_mem oM.view fo (cOff2_inb h1 b k) _ [] _ rfl 3 ?_
      have := h k List.mem_cons_self
      show t.val < 256 * k.val ∨ 256 * k.val + 256 ≤ t.val; omega

/-- The chunk steps from `k` on, for every chunk: the element of chunk `k` is what step `k` stores. -/
theorem rowOut_at (s' : Fin 2) (hs' : v1 = s'.val) (r : Fin 256) (t : Fin 4096) (k : Fin 16) (hk : t.val / 256 = k.val)
    (ks : List (Fin 16)) (hks : k ∉ ks) (carry : FVec F S256x1 .f32) (fo : oM.view.ty.Contents (Elt F)) :
    oM.view.read (Elt F) (rowOut L h0 h1 b fx (k :: ks) carry fo) (ix4 s' b r t)
      = outOf L carry (xAt h0 b fx k) (ix4 (0 : Fin 1) (0 : Fin 1) r (⟨t.val % 256, by omega⟩ : Fin 256)) := by
  unfold rowOut
  rw [rowOut_other L h0 h1 b fx s' hs' b r t ks _ _ (.inr fun k' hk' e => hks (Fin.ext (hk.symm.trans e) ▸ hk'))]
  refine View.read_writes_cons_unit_of_mem oM.view fo (cOff2_inb h1 b k) _ [] _ (ix4 (0 : Fin 1) (0 : Fin 1) r (⟨t.val % 256, by omega⟩ : Fin 256)) rfl ?_
  subst hs'
  intro a; fin_cases a
  · show s'.val = s'.val + 0; omega
  · show b.val = b.val + 0; omega
  · show r.val = 0 + r.val; omega
  · show t.val = 256 * k.val + t.val % 256; omega

theorem rowOut_append (ks' : List (Fin 16)) : ∀ (ks : List (Fin 16)) (carry : FVec F S256x1 .f32) (fo : oM.view.ty.Contents (Elt F)),
    rowOut L h0 h1 b fx (ks ++ ks') carry fo
      = rowOut L h0 h1 b fx ks' (ks.foldl (fun q k => carryOf L q (xAt h0 b fx k)) carry) (rowOut L h0 h1 b fx ks carry fo)
  | [], _, _ => rfl
  | k :: ks, carry, fo => rowOut_append ks' ks _ _

/-- The carry after the first `n` chunks. -/
theorem foldl_carry (s : Fin 3) (hs : v0 = s.val) : ∀ n, n ≤ 16 →
    (chunks.take n).foldl (fun q k => carryOf L q (xAt h0 b fx k)) zeroCarry = carryAt L ((rslot s).view.read (Elt F) fx) b n
  | 0, _ => rfl
  | n + 1, hn => by
    have e : chunks.take (n + 1) = chunks.take n ++ [Fin.ofNat 16 n] := by
      have : ∀ m : Fin 16, chunks.take (m.val + 1) = chunks.take m.val ++ [Fin.ofNat 16 m.val] := by decide
      exact this ⟨n, hn⟩
    rw [e, List.foldl_append, foldl_carry s hs n (by omega)]
    show carryOf L _ (xAt h0 b fx _) = carryOf L _ _
    rw [xAt_eq h0 s hs]

/-- A whole row: every element of row `b` is the compressed block's. -/
theorem rowOut_row (s : Fin 3) (hs : v0 = s.val) (s' : Fin 2) (hs' : v1 = s'.val) (r : Fin 256) (t : Fin 4096) (fo : oM.view.ty.Contents (Elt F)) :
    oM.view.read (Elt F) (rowOut L h0 h1 b fx chunks zeroCarry fo) (ix4 s' b r t) = outBlock L ((rslot s).view.read (Elt F) fx) (ix3 b r t) := by
  have ht : t.val / 256 < 16 := by have := t.isLt; omega
  have e : ∀ m : Fin 16, chunks = chunks.take m.val ++ m :: chunks.drop (m.val + 1) ∧ m ∉ chunks.drop (m.val + 1) := by decide
  obtain ⟨e, hm⟩ := e ⟨t.val / 256, ht⟩
  rw [e, rowOut_append, foldl_carry L h0 b fx s hs _ (by simp only; omega), rowOut_at L h0 h1 b fx s' hs' r t ⟨t.val / 256, ht⟩ rfl _ hm, xAt_eq h0 s hs]
  rfl

/-- Both rows, one after the other. -/
theorem rows_read (s : Fin 3) (hs : v0 = s.val) (s' : Fin 2) (hs' : v1 = s'.val) (b : Fin 2) (r : Fin 256) (t : Fin 4096) (fo : oM.view.ty.Contents (Elt F)) :
    (oslot s').view.read (Elt F) (rowOut L h0 h1 1 fx chunks zeroCarry (rowOut L h0 h1 0 fx chunks zeroCarry fo)) (ix3 b r t)
      = outBlock L ((rslot s).view.read (Elt F) fx) (ix3 b r t) := by
  refine (read_oslot _ _ b r t).trans ?_
  obtain rfl | rfl : b = 0 ∨ b = 1 := by fin_cases b <;> simp
  · rw [rowOut_other L h0 h1 1 fx _ hs' 0 r t _ _ _ (.inl (by decide))]
    exact rowOut_row L h0 h1 0 fx _ hs _ hs' r t _
  · exact rowOut_row L h0 h1 1 fx _ hs _ hs' r t _

end Out

/-- All the chunk steps of a grid point: from a block `X` in the input slot the output slot ends at the compressed
    block. -/
theorem chunkProg_run (i : grid0.Coords) (L : Vec F S256x256 .f32) (c : Dev nD) (fx : rM.view.ty.Contents (Elt F)) (fo : oM.view.ty.Contents (Elt F))
    (Q : PUnit → sProp 𝕄) :
    iprop((rM.view.loc (c : Thread nD τ) ↦[(rslot (Ring.sl 3 (pt i).val)).view.set]{fullShare} fx)
      ∗ (oM.view.loc (c : Thread nD τ) ↦[(oslot (Ring.sl 2 (pt i).val)).view.set]{fullShare} fo)
      ∗ (∀ fs, ⌜(oslot (Ring.sl 2 (pt i).val)).view.read (Elt F) fs = outBlock L ((rslot (Ring.sl 3 (pt i).val)).view.read (Elt F) fx)⌝ -∗
          (rM.view.loc (c : Thread nD τ) ↦[(rslot (Ring.sl 3 (pt i).val)).view.set]{fullShare} fx) -∗
          (oM.view.loc (c : Thread nD τ) ↦[(oslot (Ring.sl 2 (pt i).val)).view.set]{fullShare} fs) -∗ Q ⟨⟩))
    ⊢ wp frame (wpE (defs₀ (F := F)) 𝒱₀ (c : Thread nD τ) none) Set.univ (chunkProg i L) Q := by
  iintro ⟨Hx, Ho, Hk⟩
  unfold chunkProg
  rw [wp_bind]
  iapply (rowProg_spec L (rsl_lt i) (osl_lt i) 0 c (Ring.sl 3 (pt i).val) (rsl_eq i) (Ring.sl 2 (pt i).val) (osl_eq i) fx _ chunks zeroCarry fo)
  isplitl [Hx]; · iexact Hx
  isplitl [Ho]; · iexact Ho
  iintro ⟨Hx, Ho⟩
  iapply (rowProg_spec L (rsl_lt i) (osl_lt i) 1 c (Ring.sl 3 (pt i).val) (rsl_eq i) (Ring.sl 2 (pt i).val) (osl_eq i) fx _ chunks zeroCarry _)
  isplitl [Hx]; · iexact Hx
  isplitl [Ho]; · iexact Ho
  iintro ⟨Hx, Ho⟩
  iapply Hk $$ %(rowOut L (rsl_lt i) (osl_lt i) 1 fx chunks zeroCarry (rowOut L (rsl_lt i) (osl_lt i) 0 fx chunks zeroCarry fo)) [] Hx Ho
  ipureintro
  funext j
  rw [eq_ix3 j]
  exact rows_read L (rsl_lt i) (osl_lt i) fx _ (rsl_eq i) _ (osl_eq i) (j 0) (j 1) (j 2) fo

/-- All the chunk steps of a grid point: from a block `X` in the input slot the output slot ends at the compressed
    block (`chunkProg_run` at the slots' own views). -/
theorem chunkProg_spec (i : grid0.Coords) (L : Vec F S256x256 .f32) (c : Dev nD) (fx : (rslot (Ring.sl 3 (pt i).val)).view.ty.Contents (Elt F)) (fo : (oslot (Ring.sl 2 (pt i).val)).view.ty.Contents (Elt F))
    (Q : PUnit → sProp 𝕄) :
    iprop(((rslot (Ring.sl 3 (pt i).val)).view.loc (c : Thread nD τ) ↦[(rslot (Ring.sl 3 (pt i).val)).view.set]{fullShare} fx)
      ∗ ((oslot (Ring.sl 2 (pt i).val)).view.loc (c : Thread nD τ) ↦[(oslot (Ring.sl 2 (pt i).val)).view.set]{fullShare} fo)
      ∗ (∀ fs, ⌜(oslot (Ring.sl 2 (pt i).val)).view.read (Elt F) fs = outBlock L ((rslot (Ring.sl 3 (pt i).val)).view.read (Elt F) fx)⌝ -∗
          ((rslot (Ring.sl 3 (pt i).val)).view.loc (c : Thread nD τ) ↦[(rslot (Ring.sl 3 (pt i).val)).view.set]{fullShare} fx) -∗
          ((oslot (Ring.sl 2 (pt i).val)).view.loc (c : Thread nD τ) ↦[(oslot (Ring.sl 2 (pt i).val)).view.set]{fullShare} fs) -∗ Q ⟨⟩))
    ⊢ wp frame (wpE (defs₀ (F := F)) 𝒱₀ (c : Thread nD τ) none) Set.univ (chunkProg i L) Q :=
  chunkProg_run i L c fx fo Q

end Cert.KernelIdeal.Ring
-- ==== Proof.KernelIdeal.Body.lean ====
/-
  The body of one grid point outside its chunks: what the waits and the transfer starts before and after them do to
  the two rings. Load `b` into slot `s` is a flight that returns the slot at block `b` and the block; store `b` from
  slot `s` is a flight that returns the output block at the slot's contents and the slot.
-/
module

public import proofs.«01_k».proof.Proof.KernelIdeal.Row

@[expose] public section

noncomputable section

namespace Cert.KernelIdeal.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Pieces
variable (c : Dev nD) (XA : Buf (Elt F) (xM.view.loc (c : Thread nD τ))) (Y0 : Buf (Elt F) (yM.view.loc (c : Thread nD τ)))

/-- The cell of load slot `s` at zero; slot `s` held at `f`; block `b` of the input held. -/
abbrev lcell (s : Fin 3) : sProp 𝕄 := semVal ((c : Thread nD τ), SemLoc.dma (lsm s).sem) 0
abbrev rslotP (s : Fin 3) (f : Buf (Elt F) ((rslot s).view.loc (c : Thread nD τ))) : sProp 𝕄 :=
  (rslot s).view.loc (c : Thread nD τ) ↦[(rslot s).view.set]{fullShare} f
abbrev xhome (b : Fin 16) : sProp 𝕄 := (xblk b).view.loc (c : Thread nD τ) ↦[(xblk b).view.set]{fullShare} XA
/-- What load `b` leaves in slot `s` over `f`. -/
abbrev landed (s : Fin 3) (b : Fin 16) (f : Buf (Elt F) ((rslot s).view.loc (c : Thread nD τ))) : Buf (Elt F) ((rslot s).view.loc (c : Thread nD τ)) :=
  (rslot s).view.writes (Elt F) f [⟨Rect.whole S2x256x4096, ReadAs.same.apply ((xblk b).view.read (Elt F) XA)⟩]
/-- Load `b` in flight into slot `s`. -/
abbrev lflight (s : Fin 3) (b : Fin 16) (f : Buf (Elt F) ((rslot s).view.loc (c : Thread nD τ))) : sProp 𝕄 :=
  Transfers.Flight countersEmb (c : Thread nD τ) (SemLoc.dma (lsm s).sem) () 262144 iprop(rslotP c s (landed c XA s b f) ∗ xhome c XA b)

/-- The cell of store slot `s` at zero; slot `s` held at `f`; block `b` of the output held at `f`. -/
abbrev scell (s : Fin 2) : sProp 𝕄 := semVal ((c : Thread nD τ), SemLoc.dma (ssm s).sem) 0
abbrev oslotP (s : Fin 2) (f : Buf (Elt F) ((oslot s).view.loc (c : Thread nD τ))) : sProp 𝕄 :=
  (oslot s).view.loc (c : Thread nD τ) ↦[(oslot s).view.set]{fullShare} f
abbrev yblkP (b : Fin 16) (f : Buf (Elt F) (yM.view.loc (c : Thread nD τ))) : sProp 𝕄 :=
  (yblk b).view.loc (c : Thread nD τ) ↦[(yblk b).view.set]{fullShare} f
/-- What store `b` leaves in the output over `f`, the slot holding `fs`. -/
abbrev stored (s : Fin 2) (b : Fin 16) (f : Buf (Elt F) (yM.view.loc (c : Thread nD τ))) (fs : Buf (Elt F) ((oslot s).view.loc (c : Thread nD τ))) :
    Buf (Elt F) (yM.view.loc (c : Thread nD τ)) :=
  (yblk b).view.writes (Elt F) f [⟨Rect.whole S2x256x4096, ReadAs.same.apply ((oslot s).view.read (Elt F) fs)⟩]
/-- Store `b` in flight from slot `s`. -/
abbrev sflight (s : Fin 2) (b : Fin 16) (f : Buf (Elt F) (yM.view.loc (c : Thread nD τ))) (fs : Buf (Elt F) ((oslot s).view.loc (c : Thread nD τ))) : sProp 𝕄 :=
  Transfers.Flight countersEmb (c : Thread nD τ) (SemLoc.dma (ssm s).sem) () 262144 iprop(yblkP c b (stored c s b f fs) ∗ oslotP c s fs)

theorem read_landed (s : Fin 3) (b : Fin 16) (f) : (rslot s).view.read (Elt F) (landed c XA s b f) = (xblk b).view.read (Elt F) XA :=
  View.read_writes_whole ..

end Pieces

section Triples
variable (i : grid0.Coords) (c : Dev nD) (XA : Buf (Elt F) (xM.view.loc (c : Thread nD τ))) (Y0 : Buf (Elt F) (yM.view.loc (c : Thread nD τ)))
  (a2 : Memref sig .tc .vmem S256x256 .f32) (ga : Buf (Elt F) (a2.view.loc (c : Thread nD τ)))

abbrev tabP : sProp 𝕄 := a2.view.loc (c : Thread nD τ) ↦[a2.view.set]{fullShare} ga
/-- The table the body reads. -/
abbrev tabOf : Vec F S256x256 .f32 := a2.view.readAt (Elt F) (Rect.unit (s := S256x256) ![0, 0] S256x256.size inb_S256x256_S256x256_0_0).toLoadRect ga

theorem sl3_z (h : (pt i).val = 0) : Ring.sl 3 (pt i).val = 0 := Fin.ext (by rw [sl3_val, h]; rfl)
theorem bk16_z (h : (pt i).val = 0) : Ring.bk 16 (pt i).val = 0 := Fin.ext (by rw [h]; rfl)

attribute [local sl_canon] sl3_z bk16_z in
/-- Point 0 before its chunks: the three loads are started, the first is awaited, the table read. -/
theorem head0 (h0 : (pt i).val = 0) (W) (Q : Vec F S256x256 .f32 → sProp 𝕄) :
    iprop((xhome c XA 0 ∗ xhome c XA 1 ∗ xhome c XA 2 ∗ (lcell c 0 ∗ ∃ f, rslotP c 0 f) ∗ (lcell c 1 ∗ ∃ f, rslotP c 1 f) ∗ (lcell c 2 ∗ ∃ f, rslotP c 2 f)
        ∗ tabP c a2 ga ∗ owes (c : Thread nD τ) 0 W)
      ∗ (∀ f, ⌜(rslot 0).view.read (Elt F) f = (xblk 0).view.read (Elt F) XA⌝ -∗ rslotP c 0 f -∗ lcell c 0 -∗ xhome c XA 0
          -∗ (∃ f, lflight c XA 1 1 f) -∗ (∃ f, lflight c XA 2 2 f) -∗ tabP c a2 ga -∗ (∃ W, owes (c : Thread nD τ) 0 W) -∗ Q (tabOf c a2 ga)))
      ⊢ wp frame (wpE (defs₀ (F := F)) 𝒱₀ (c : Thread nD τ) none) Set.univ (headProg i a2) Q := by
  have hc1 : k0_cond1 i = 1#1 := (cond1_iff i).2 h0
  have hc2 : ¬ k0_cond2 i = 1#1 := fun h => by have := (cond2_iff i).1 h; omega
  iintro ⟨⟨Hx0, Hx1, Hx2, ⟨Hc0, %f0, Hr0⟩, ⟨Hc1, %f1, Hr1⟩, ⟨Hc2, %f2, Hr2⟩, Ha, HW⟩, Hk⟩
  sl_unfold [headProg]
  sl_exec
  sl_step
  iapply Hk $$ %(landed c XA 0 0 f0) %(read_landed c XA 0 0 f0) [Hr0] [Hc0] [Hx0] [Hc1] [Hc2] [Ha] [HW]
  · iexact Hr0
  · iexact Hc0
  · iexact Hx0
  · iexists f1; iexact Hc1
  · iexists f2; iexact Hc2
  · iexact Ha
  · iexists _; iexact HW

/-- Point 1 before its chunks: its load is awaited, the table read. -/
theorem head1 (h0 : 1 ≤ (pt i).val) (h1 : (pt i).val < 2) (W) (Q : Vec F S256x256 .f32 → sProp 𝕄) :
    iprop(((∃ f, lflight c XA (Ring.sl 3 (pt i).val) (Ring.bk 16 (pt i).val) f) ∗ tabP c a2 ga ∗ owes (c : Thread nD τ) 0 W)
      ∗ (∀ f, ⌜(rslot (Ring.sl 3 (pt i).val)).view.read (Elt F) f = (xblk (Ring.bk 16 (pt i).val)).view.read (Elt F) XA⌝
          -∗ rslotP c (Ring.sl 3 (pt i).val) f -∗ lcell c (Ring.sl 3 (pt i).val) -∗ xhome c XA (Ring.bk 16 (pt i).val)
          -∗ tabP c a2 ga -∗ (∃ W, owes (c : Thread nD τ) 0 W) -∗ Q (tabOf c a2 ga)))
      ⊢ wp frame (wpE (defs₀ (F := F)) 𝒱₀ (c : Thread nD τ) none) Set.univ (headProg i a2) Q := by
  have hc1 : ¬ k0_cond1 i = 1#1 := fun h => by have := (cond1_iff i).1 h; omega
  have hc2 : ¬ k0_cond2 i = 1#1 := fun h => by have := (cond2_iff i).1 h; omega
  iintro ⟨⟨⟨%f0, Hc0⟩, Ha, HW⟩, Hk⟩
  sl_unfold [headProg]
  sl_exec
  sl_step
  iapply Hk $$ %(landed c XA _ _ f0) %(read_landed c XA _ _ f0) [Hc0_dst] [Hc0] [Hc0_src] [Ha] [HW]
  · iexact Hc0_dst
  · iexact Hc0
  · iexact Hc0_src
  · iexact Ha
  · iexists _; iexact HW

/-- A later point before its chunks: its load and the store of two points before are awaited, the table read. -/
theorem head2 (h0 : 2 ≤ (pt i).val) (fs : Buf (Elt F) ((oslot (Ring.sl 2 ((pt i).val - 2))).view.loc (c : Thread nD τ))) (W) (Q : Vec F S256x256 .f32 → sProp 𝕄) :
    iprop(((∃ f, lflight c XA (Ring.sl 3 (pt i).val) (Ring.bk 16 (pt i).val) f)
        ∗ sflight c (Ring.sl 2 ((pt i).val - 2)) (Ring.bk 16 ((pt i).val - 2)) Y0 fs ∗ tabP c a2 ga ∗ owes (c : Thread nD τ) 0 W)
      ∗ (∀ f, ⌜(rslot (Ring.sl 3 (pt i).val)).view.read (Elt F) f = (xblk (Ring.bk 16 (pt i).val)).view.read (Elt F) XA⌝
          -∗ rslotP c (Ring.sl 3 (pt i).val) f -∗ lcell c (Ring.sl 3 (pt i).val) -∗ xhome c XA (Ring.bk 16 (pt i).val)
          -∗ yblkP c (Ring.bk 16 ((pt i).val - 2)) (stored c (Ring.sl 2 ((pt i).val - 2)) (Ring.bk 16 ((pt i).val - 2)) Y0 fs)
          -∗ scell c (Ring.sl 2 ((pt i).val - 2)) -∗ oslotP c (Ring.sl 2 ((pt i).val - 2)) fs
          -∗ tabP c a2 ga -∗ (∃ W, owes (c : Thread nD τ) 0 W) -∗ Q (tabOf c a2 ga)))
      ⊢ wp frame (wpE (defs₀ (F := F)) 𝒱₀ (c : Thread nD τ) none) Set.univ (headProg i a2) Q := by
  have hc1 : ¬ k0_cond1 i = 1#1 := fun h => by have := (cond1_iff i).1 h; omega
  have hc2 : k0_cond2 i = 1#1 := (cond2_iff i).2 h0
  iintro ⟨⟨⟨%f0, Hc0⟩, Hs, Ha, HW⟩, Hk⟩
  sl_unfold [headProg]
  sl_exec
  sl_step
  iapply Hk $$ %(landed c XA _ _ f0) %(read_landed c XA _ _ f0) [Hc0_dst] [Hc0] [Hc0_src] [Hs_dst] [Hs] [Hs_src] [Ha] [HW]
  · iexact Hc0_dst
  · iexact Hc0
  · iexact Hc0_src
  · iexact Hs_dst
  · iexact Hs
  · iexact Hs_src
  · iexact Ha
  · iexists _; iexact HW

/-- After the chunks, while a load is left: the store is started, then the load of three points ahead. -/
theorem tail1 (h0 : (pt i).val < 13) (fs : Buf (Elt F) ((oslot (Ring.sl 2 (pt i).val)).view.loc (c : Thread nD τ))) (W) (Q : BitVec 32 → sProp 𝕄) :
    iprop((oslotP c (Ring.sl 2 (pt i).val) fs ∗ scell c (Ring.sl 2 (pt i).val) ∗ yblkP c (Ring.bk 16 (pt i).val) Y0
        ∗ (lcell c (Ring.sl 3 ((pt i).val + 3)) ∗ ∃ f, rslotP c (Ring.sl 3 ((pt i).val + 3)) f) ∗ xhome c XA (Ring.bk 16 ((pt i).val + 3))
        ∗ owes (c : Thread nD τ) 0 W)
      ∗ (sflight c (Ring.sl 2 (pt i).val) (Ring.bk 16 (pt i).val) Y0 fs
          -∗ (∃ f, lflight c XA (Ring.sl 3 ((pt i).val + 3)) (Ring.bk 16 ((pt i).val + 3)) f)
          -∗ (∃ W, owes (c : Thread nD τ) 0 W) -∗ Q (BitVec.ofNat 32 (i 0).val)))
      ⊢ wp frame (wpE (defs₀ (F := F)) 𝒱₀ (c : Thread nD τ) none) Set.univ (tailProg i) Q := by
  have hc3 : k0_cond3 i = 1#1 := (cond3_iff i).2 h0
  have h13 : (pt i).val + 3 < 16 := by omega
  iintro ⟨⟨Ho, Hs, Hy, ⟨Hc, %f0, Hr⟩, Hx, HW⟩, Hk⟩
  sl_unfold [tailProg]
  sl_exec
  sl_step
  iapply Hk $$ [Hs] [Hc] [HW]
  · iexact Hs
  · iexists f0; iexact Hc
  · iexists _; iexact HW

/-- After the chunks, no load left: the store is started. -/
theorem tail2 (h0 : 13 ≤ (pt i).val) (fs : Buf (Elt F) ((oslot (Ring.sl 2 (pt i).val)).view.loc (c : Thread nD τ))) (W) (Q : BitVec 32 → sProp 𝕄) :
    iprop((oslotP c (Ring.sl 2 (pt i).val) fs ∗ scell c (Ring.sl 2 (pt i).val) ∗ yblkP c (Ring.bk 16 (pt i).val) Y0
        ∗ owes (c : Thread nD τ) 0 W)
      ∗ (sflight c (Ring.sl 2 (pt i).val) (Ring.bk 16 (pt i).val) Y0 fs
          -∗ (∃ W, owes (c : Thread nD τ) 0 W) -∗ Q (BitVec.ofNat 32 (i 0).val)))
      ⊢ wp frame (wpE (defs₀ (F := F)) 𝒱₀ (c : Thread nD τ) none) Set.univ (tailProg i) Q := by
  have hc3 : ¬ k0_cond3 i = 1#1 := fun h => by have := (cond3_iff i).1 h; omega
  iintro ⟨⟨Ho, Hs, Hy, HW⟩, Hk⟩
  sl_unfold [tailProg]
  sl_exec
  sl_step
  iapply Hk $$ [Hs] [HW]
  · iexact Hs
  · iexists _; iexact HW

/-- Before the last point nothing is awaited at the end. -/
theorem last1 (h0 : (pt i).val < 15) (Q : PUnit → sProp 𝕄) :
    Q ⟨⟩ ⊢ wp frame (wpE (defs₀ (F := F)) 𝒱₀ (c : Thread nD τ) none) Set.univ (lastProg i) Q := by
  have hc4 : ¬ k0_cond4 i = 1#1 := fun h => by have := (cond4_iff i).1 h; omega
  iintro Hk
  sl_unfold [lastProg]
  sl_exec
  sl_step
  iexact Hk

/-- The last point awaits the two stores in flight. -/
theorem last2 (h0 : (pt i).val = 15) (fs : Buf (Elt F) ((oslot (Ring.sl 2 (pt i).val)).view.loc (c : Thread nD τ)))
    (fs' : Buf (Elt F) ((oslot (Ring.sl 2 ((pt i).val - 1))).view.loc (c : Thread nD τ))) (W) (Q : PUnit → sProp 𝕄) :
    iprop((sflight c (Ring.sl 2 ((pt i).val - 1)) (Ring.bk 16 ((pt i).val - 1)) Y0 fs' ∗ sflight c (Ring.sl 2 (pt i).val) (Ring.bk 16 (pt i).val) Y0 fs
        ∗ owes (c : Thread nD τ) 0 W)
      ∗ (yblkP c (Ring.bk 16 ((pt i).val - 1)) (stored c (Ring.sl 2 ((pt i).val - 1)) (Ring.bk 16 ((pt i).val - 1)) Y0 fs')
          -∗ scell c (Ring.sl 2 ((pt i).val - 1)) -∗ oslotP c (Ring.sl 2 ((pt i).val - 1)) fs'
          -∗ yblkP c (Ring.bk 16 (pt i).val) (stored c (Ring.sl 2 (pt i).val) (Ring.bk 16 (pt i).val) Y0 fs)
          -∗ scell c (Ring.sl 2 (pt i).val) -∗ oslotP c (Ring.sl 2 (pt i).val) fs
          -∗ (∃ W, owes (c : Thread nD τ) 0 W) -∗ Q ⟨⟩))
      ⊢ wp frame (wpE (defs₀ (F := F)) 𝒱₀ (c : Thread nD τ) none) Set.univ (lastProg i) Q := by
  have hc4 : k0_cond4 i = 1#1 := (cond4_iff i).2 h0
  have h1 : 1 ≤ (pt i).val := by omega
  iintro ⟨⟨Hs', Hs, HW⟩, Hk⟩
  sl_unfold [lastProg]
  sl_exec
  sl_step
  iapply Hk $$ [Hs'_dst] [Hs'] [Hs'_src] [Hs_dst] [Hs] [Hs_src] [HW]
  · iexact Hs'_dst
  · iexact Hs'
  · iexact Hs'_src
  · iexact Hs_dst
  · iexact Hs
  · iexact Hs_src
  · iexists _; iexact HW

end Triples
end Cert.KernelIdeal.Ring
end
-- ==== Proof.KernelIdeal.RingSteps.lean ====
/-
  The ring of three slots loaded three blocks ahead over sixteen points, one point at a time: what a point takes out of
  the ring's state and what it puts back, for any propositions in the place of cells, slots, blocks and flights.
-/
module

public import Idealize.ShloMosaic.Lib.Ring
public import Idealize.ShloMosaic.Lib.Ring.WriteBehind

@[expose] public section

noncomputable section

namespace Cert.RingSteps

open Idealize.ShloMosaic Idealize.ShloMosaic.Ring
open Idealize.SL Idealize.SL.RA Idealize.SL.BI
open scoped Idealize.SL.BI
open Idealize.SL.BI.BIBase Idealize.SL.BI.Laws Idealize.SL.ProofMode Idealize.SL.Sem

variable {M : Type _} [URA M] {C : Fin 3 → Type _} (cell : Fin 3 → sProp M) (slot : (s : Fin 3) → C s → sProp M) (home : Fin 16 → sProp M)
  (flight : (s : Fin 3) → Fin 16 → C s → sProp M)

/-- One member of a family held apart. -/
theorem bigSep_ins {I : Type} [DecidableEq I] {s : Finset I} {a : I} {Φ : I → sProp M} (h : a ∉ s) : bigSep (insert a s) Φ = iprop(Φ a ∗ bigSep s Φ) := bigSep_insert h

/-- The ring before point `p`. -/
def Rd (p : ℕ) : sProp M := if p = 0 then At₀ cell slot home else At 3 cell slot home flight p

/-- The ring within point `p`, its own slot, cell and block taken out. -/
def Mid (p : ℕ) : sProp M :=
  iprop(bigSep (homeSet (NB := 16) 3 p) home ∗ slotAt 3 cell slot flight p 1 ∗ slotAt 3 cell slot flight p 2)

/-- Point `p ≥ 1` takes the flight of its own load. -/
theorem Rd_open (p : ℕ) (h1 : 1 ≤ p) (h : p < 16) :
    Rd cell slot home flight p ⊢ iprop((∃ f, flight (sl 3 p) (bk 16 p) f) ∗ Mid cell slot home flight p) := by
  unfold Rd Mid
  rw [if_neg (by omega)]
  unfold At
  rw [bigSep_fin3, slotAt_of_lt _ _ _ _ p 0 (by simp; omega)]
  simp only [Fin.val_zero, Nat.add_zero]
  iintro ⟨H, H0, H1, H2⟩
  isplitl [H0]; · iexact H0
  isplitl [H]; · iexact H
  isplitl [H1]; · iexact H1
  iexact H2

theorem sl3_0 : sl 3 0 = 0 := Fin.ext (by rfl)
theorem bk16_0 : bk 16 0 = 0 := Fin.ext (by rfl)

/-- The first point finds everything home. -/
theorem Rd_zero :
    Rd cell slot home flight 0 ⊢ iprop(home 0 ∗ home 1 ∗ home 2 ∗ (cell 0 ∗ ∃ f, slot 0 f) ∗ (cell 1 ∗ ∃ f, slot 1 f) ∗ (cell 2 ∗ ∃ f, slot 2 f)
      ∗ bigSep (homeSet (NB := 16) 3 0) home) := by
  unfold Rd
  rw [if_pos rfl]
  unfold At₀
  have e : (Finset.univ : Finset (Fin 16)) = insert 0 (insert 1 (insert 2 (homeSet (NB := 16) 3 0))) := by
    ext b; simp only [Finset.mem_univ, Finset.mem_insert, mem_homeSet, true_iff, Fin.ext_iff]; have := b.isLt
    simp only [Fin.val_zero, Fin.val_one, Fin.val_two]; omega
  rw [bigSep_fin3, e, bigSep_ins (by simp [mem_homeSet, Fin.ext_iff]), bigSep_ins (by simp [mem_homeSet, Fin.ext_iff]), bigSep_ins (by simp [mem_homeSet, Fin.ext_iff])]
  iintro ⟨⟨H0, H1, H2, H⟩, F0, F1, F2⟩
  isplitl [H0]; · iexact H0
  isplitl [H1]; · iexact H1
  isplitl [H2]; · iexact H2
  isplitl [F0]; · iexact F0
  isplitl [F1]; · iexact F1
  isplitl [F2]; · iexact F2
  iexact H

/-- Loads 1 and 2 started, the first point stands where a later one does. -/
theorem Mid_zero :
    iprop((∃ f, flight 1 1 f) ∗ (∃ f, flight 2 2 f) ∗ bigSep (homeSet (NB := 16) 3 0) home) ⊢ Mid cell slot home flight 0 := by
  unfold Mid
  rw [slotAt_of_lt _ _ _ _ 0 1 (by simp), slotAt_of_lt _ _ _ _ 0 2 (by simp)]
  iintro ⟨H1, H2, H⟩
  isplitl [H]; · iexact H
  isplitl [H1]; · iexact H1
  iexact H2

/-- While a load is left: its block is taken out, and started into the slot just freed. -/
theorem Mid_next (p : ℕ) (h : p + 3 < 16) :
    Mid cell slot home flight p ⊢ iprop(home (bk 16 (p + 3))
      ∗ (home (bk 16 p) -∗ (∃ f, flight (sl 3 (p + 3)) (bk 16 (p + 3)) f) -∗ Rd cell slot home flight (p + 1))) := by
  unfold Mid Rd
  rw [if_neg (by omega)]
  unfold At
  rw [homeSet_succ 3 p h, bigSep_ins (bk_not_mem_erase 3 p (by omega) (by decide)), bigSep_fin3]
  conv_lhs => rw [homeSet_out 3 p h, bigSep_ins (bkL_not_mem_erase 3 p)]
  rw [slotAt_of_lt _ _ _ _ p 1 (by simp; omega), slotAt_of_lt _ _ _ _ p 2 (by simp; omega),
    slotAt_of_lt _ _ _ _ (p + 1) 0 (by simp; omega), slotAt_of_lt _ _ _ _ (p + 1) 1 (by simp; omega), slotAt_of_lt _ _ _ _ (p + 1) 2 (by simp; omega)]
  simp only [Fin.val_zero, Fin.val_one, Fin.val_two, Nat.add_zero, Nat.add_assoc, Nat.reduceAdd]
  iintro ⟨⟨Ho, H⟩, H1, H2⟩
  isplitl [Ho]; · iexact Ho
  iintro Hh Hf
  isplitl [Hh H]
  · isplitl [Hh]; · iexact Hh
    iexact H
  isplitl [H1]; · iexact H1
  isplitl [H2]; · iexact H2
  iexact Hf

/-- No load left: the slot just freed stays free. -/
theorem Mid_tail (p : ℕ) (h : 16 ≤ p + 3) (hp : p < 16) :
    iprop(Mid cell slot home flight p ∗ home (bk 16 p) ∗ (cell (sl 3 p) ∗ ∃ f, slot (sl 3 p) f)) ⊢ Rd cell slot home flight (p + 1) := by
  have e1 : slotAt 3 cell slot flight (p + 1) 0 = slotAt 3 cell slot flight p 1 := by
    unfold slotAt; simp only [Fin.val_zero, Fin.val_one, Nat.add_zero]; congr 1; simp
  have e2 : slotAt 3 cell slot flight (p + 1) 1 = slotAt 3 cell slot flight p 2 := by
    unfold slotAt; simp only [Fin.val_two, Fin.val_one, Nat.add_assoc, Nat.reduceAdd]; congr 1; simp
  unfold Mid Rd
  rw [if_neg (by omega)]
  unfold At
  rw [homeSet_succ_tail 3 p h hp, bigSep_ins (bk_not_mem_homeSet 3 p hp (by decide)), bigSep_fin3, e1, e2,
    slotAt_of_not _ _ _ _ (p + 1) 2 (by simp; omega), Fin.val_two, show sl 3 (p + 1 + 2) = sl 3 p by rw [show p + 1 + 2 = p + 3 from rfl, sl_add]]
  iintro ⟨⟨H, H1, H2⟩, Hh, Hf⟩
  isplitl [Hh H]
  · isplitl [Hh]; · iexact Hh
    iexact H
  isplitl [H1]; · iexact H1
  isplitl [H2]; · iexact H2
  iexact Hf

/-- After the last point everything is home. -/
theorem Rd_end : Rd cell slot home flight 16 ⊢ At₀ cell slot home := by
  unfold Rd
  rw [if_neg (by omega)]
  unfold At At₀
  rw [homeSet_last 3 16 le_rfl, bigSep_fin3, bigSep_fin3, slotAt_of_not _ _ _ _ 16 0 (by simp), slotAt_of_not _ _ _ _ 16 1 (by simp),
    slotAt_of_not _ _ _ _ 16 2 (by simp)]
  simp only [show sl 3 (16 + (0 : Fin 3).val) = 1 from Fin.ext (by rfl), show sl 3 (16 + (1 : Fin 3).val) = 2 from Fin.ext (by rfl),
    show sl 3 (16 + (2 : Fin 3).val) = 0 from Fin.ext (by rfl)]
  iintro ⟨H, H1, H2, H0⟩
  isplitl [H]; · iexact H
  isplitl [H0]; · iexact H0
  isplitl [H1]; · iexact H1
  iexact H2

/-! ## The two-slot ring of stores, each awaited two points later -/

section Stores
variable (free : Fin 2 → sProp M) (infl : Fin 2 → Fin 16 → sProp M) (ahead behind : Fin 16 → sProp M)

/-- What point `p` leaves to be completed by its own store's flight. -/
abbrev Wr (p : ℕ) : sProp M := iprop(infl (sl 2 p) (bk 16 p) -∗ AtB 2 free infl ahead behind (p + 1))

theorem Wr_zero : AtBΦ 2 free infl ahead behind 0 ⊢ iprop(free (sl 2 0) ∗ ahead (bk 16 0) ∗ Wr free infl ahead behind 0) := by
  unfold Wr
  rw [AtBΦ_lt _ _ _ _ _ 0 (by decide), AtB2_zero' _ _ _ _ _ 0 rfl, AtB22_next_zero' _ _ _ _ 0 rfl]
  iintro ⟨⟨Ha, Hr⟩, Hf, Hf'⟩
  isplitl [Hf]; · iexact Hf
  isplitl [Ha]; · iexact Ha
  iintro Hi
  isplitl [Hr]; · iexact Hr
  isplitl [Hf']; · iexact Hf'
  iexact Hi

theorem Wr_one : AtBΦ 2 free infl ahead behind 1 ⊢ iprop(free (sl 2 1) ∗ ahead (bk 16 1) ∗ Wr free infl ahead behind 1) := by
  unfold Wr
  rw [AtBΦ_lt _ _ _ _ _ 1 (by decide), AtB22_one' _ _ _ _ 1 rfl (by decide), AtB22_next_one' _ _ _ _ 1 rfl]
  iintro ⟨⟨Ha, Hr⟩, Hf, Hf'⟩
  isplitl [Hf]; · iexact Hf
  isplitl [Ha]; · iexact Ha
  iintro Hi
  isplitl [Hr]; · iexact Hr
  isplitl [Hf']; · iexact Hf'
  iexact Hi

/-- From point 2 on the store of two points before is taken, to be given back as done. -/
theorem Wr_later (p : ℕ) (h2 : 2 ≤ p) (h : p < 16) : AtBΦ 2 free infl ahead behind p
    ⊢ iprop(infl (sl 2 p) (bk 16 (p - 2)) ∗ ahead (bk 16 p) ∗ (behind (bk 16 (p - 2)) -∗ Wr free infl ahead behind p)) := by
  unfold Wr
  rw [AtBΦ_lt _ _ _ _ _ p h, AtB22_here _ _ _ _ p h2 h, AtB22_next _ _ _ _ p h2 h]
  iintro ⟨⟨Ha, Hr⟩, Hb, Hi, Hi'⟩
  isplitl [Hi]; · iexact Hi
  isplitl [Ha]; · iexact Ha
  iintro Hb' Hn
  isplitl [Hr]; · iexact Hr
  isplitl [Hb' Hb]
  · isplitl [Hb']; · iexact Hb'
    iexact Hb
  isplitl [Hi']; · iexact Hi'
  iexact Hn

/-- The last two stores are taken after the last point, to be given back as done. -/
theorem Wr_end : AtB 2 free infl ahead behind 16 ⊢ iprop(infl (sl 2 14) (bk 16 14) ∗ infl (sl 2 15) (bk 16 15)
    ∗ (behind (bk 16 14) -∗ behind (bk 16 15) -∗ free (sl 2 14) -∗ free (sl 2 15) -∗ AtBΦ 2 free infl ahead behind 16)) := by
  rw [AtB22_end' _ _ _ _ 16 rfl (by decide), AtBΦ_end _ _ _ _ _ 16 rfl, AtB22_epilogue' _ _ 16 rfl (by decide)]
  simp only [show sl 2 16 = sl 2 14 from Fin.ext (by rfl), show sl 2 (16 + 1) = sl 2 15 from Fin.ext (by rfl), Nat.reduceSub]
  iintro ⟨Hb, Hi, Hi'⟩
  isplitl [Hi]; · iexact Hi
  isplitl [Hi']; · iexact Hi'
  iintro H1 H2 F1 F2
  isplitl [H1 H2 Hb]
  · isplitl [H1]; · iexact H1
    isplitl [H2]; · iexact H2
    iexact Hb
  isplitl [F1]; · iexact F1
  iexact F2

end Stores
end Cert.RingSteps
end
-- ==== Proof.KernelIdeal.Point.lean ====
/-
  One grid point of the pipelined kernel: from the rings before point `p` to the rings before point `p + 1`. A store in
  flight carries the compressed block, so a block behind the ring holds what the whole result holds there.
-/
module

public import proofs.«01_k».proof.Proof.KernelIdeal.Body
public import proofs.«01_k».proof.Proof.KernelIdeal.RingSteps

@[expose] public section

noncomputable section

namespace Cert.KernelIdeal.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx

local notation "𝕄" => MT nD τ sig Unit (Elt F) ℕ (UU nD τ) ℕ

/-- Equal assertions entail each other. -/
theorem entails_of_eq {P Q : sProp 𝕄} (e : P = Q) : P ⊢ Q := e ▸ .rfl

/-! ## The whole result -/

/-- The kernel's result as a function of the table and the input: block by block, `outBlock` of the input's block. -/
def outBuf (L : Vec F S256x256 .f32) (XA : xM.view.ty.Contents (Elt F)) : yM.view.ty.Contents (Elt F) :=
  fun j : S32x256x4096.Idx => outBlock L ((xblk (Fin.ofNat 16 ((j 0).val / 2))).view.read (Elt F) XA) (ix3 (Fin.ofNat 2 ((j 0).val % 2)) (j 1) (j 2))

theorem blk_emb (b : Fin 16) (y : S2x256x4096.Idx) (a : Fin 3) :
    (((Rect.unit (s := S32x256x4096) (blkOff b) S2x256x4096.size (blkOff_inb b)).emb y) a).val = blkOff b a + (y a).val := by
  simp [Rect.emb, Rect.unit]

theorem outBuf_blk (L : Vec F S256x256 .f32) (XA : xM.view.ty.Contents (Elt F)) (b : Fin 16) (y : S2x256x4096.Idx) :
    outBuf L XA ((Rect.unit (s := S32x256x4096) (blkOff b) S2x256x4096.size (blkOff_inb b)).emb y)
      = outBlock L ((xblk b).view.read (Elt F) XA) y := by
  have h0 := blk_emb b y 0
  have h1 := blk_emb b y 1
  have h2 := blk_emb b y 2
  have hy : (y 0).val < 2 := (y 0).isLt
  have hb := b.isLt
  have e0 : blkOff b 0 = 2 * b.val := rfl
  have e1 : blkOff b 1 = 0 := rfl
  have e2 : blkOff b 2 = 0 := rfl
  unfold outBuf
  have eb : Fin.ofNat 16 ((((Rect.unit (s := S32x256x4096) (blkOff b) S2x256x4096.size (blkOff_inb b)).emb y) 0).val / 2) = b := by
    apply Fin.ext; rw [h0, e0]; simp only [Fin.ofNat]; omega
  rw [eb]
  congr 1
  funext a
  fin_cases a
  · apply Fin.ext; show (Fin.ofNat 2 _).val = (y 0).val; rw [h0, e0]; simp only [Fin.ofNat]; omega
  · apply Fin.ext; exact h1.trans (by show 0 + (y 1).val = (y 1).val; omega)
  · apply Fin.ext; exact h2.trans (by show 0 + (y 2).val = (y 2).val; omega)

section Point
variable (c : Dev nD) (L : Vec F S256x256 .f32) (XA : Buf (Elt F) (xM.view.loc (c : Thread nD τ))) (Y0 : Buf (Elt F) (yM.view.loc (c : Thread nD τ)))

theorem read_stored (s : Fin 2) (b : Fin 16) (f) (fs : Buf (Elt F) ((oslot s).view.loc (c : Thread nD τ))) :
    (yblk b).view.read (Elt F) (stored c s b f fs) = (oslot s).view.read (Elt F) fs := View.read_writes_whole ..
theorem read_outBuf (b : Fin 16) : (yblk b).view.read (Elt F) (outBuf L XA) = outBlock L ((xblk b).view.read (Elt F) XA) :=
  funext fun y => outBuf_blk L XA b y
theorem mem_view_set {sp : Space} {s : Shape} {e : EltTy} (v : View sig .tc sp s e) (f g : v.ty.Contents (Elt F))
    (h : v.read (Elt F) f = v.read (Elt F) g) (i : v.ty.shape.Idx) (hi : i ∈ v.set) : f i = g i := by
  obtain ⟨y, -, rfl⟩ := Finset.mem_map.1 hi
  have e := congrFun h y
  rw [View.read_apply, View.read_apply] at e
  exact (cast_inj _).1 e

/-- A stored block holds what the whole result holds there. -/
theorem stored_eq (s : Fin 2) (b : Fin 16) (fs : Buf (Elt F) ((oslot s).view.loc (c : Thread nD τ)))
    (h : (oslot s).view.read (Elt F) fs = outBlock L ((xblk b).view.read (Elt F) XA)) :
    yblkP c b (stored c s b Y0 fs) = yblkP c b (outBuf L XA) := by
  exact pointsTo_congr fun i hi => mem_view_set (yblk b).view _ _ ((read_stored c s b Y0 fs).trans (h.trans (read_outBuf c L XA b).symm)) i hi

/-- A store slot free: its cell at zero, the slot at anything. -/
abbrev freeS (s : Fin 2) : sProp 𝕄 := iprop(scell c s ∗ ∃ f, oslotP c s f)
/-- A store slot in flight with block `b`, the slot holding the compressed block. -/
abbrev inflS (s : Fin 2) (b : Fin 16) : sProp 𝕄 :=
  iprop(∃ fs, ⌜(oslot s).view.read (Elt F) fs = outBlock L ((xblk b).view.read (Elt F) XA)⌝ ∗ sflight c s b Y0 fs)

/-- The rings before point `p`. -/
def RdP (p : ℕ) : sProp 𝕄 := RingSteps.Rd (lcell c) (rslotP c) (xhome c XA) (lflight c XA) p
def WrP (p : ℕ) : sProp 𝕄 := Ring.AtBΦ 2 (freeS c) (inflS c L XA Y0) (fun b => yblkP c b Y0) (fun b => yblkP c b (outBuf L XA)) p
/-- The load ring within point `p`; the store ring within point `p`, waiting for the point's own store. -/
def MidP (p : ℕ) : sProp 𝕄 := RingSteps.Mid (lcell c) (rslotP c) (xhome c XA) (lflight c XA) p
def WrM (p : ℕ) : sProp 𝕄 := RingSteps.Wr (freeS c) (inflS c L XA Y0) (fun b => yblkP c b Y0) (fun b => yblkP c b (outBuf L XA)) p
def WrN (p : ℕ) : sProp 𝕄 := Ring.AtB 2 (freeS c) (inflS c L XA Y0) (fun b => yblkP c b Y0) (fun b => yblkP c b (outBuf L XA)) p

variable (i : grid0.Coords) (a2 : Memref sig .tc .vmem S256x256 .f32) (ga : Buf (Elt F) (a2.view.loc (c : Thread nD τ)))

/-- What the chunks find at point `p`: the point's input slot at its block, its output slot at anything. -/
abbrev HeadPost (Q : Vec F S256x256 .f32 → sProp 𝕄) (p : ℕ) : sProp 𝕄 :=
  iprop(∀ f fo, ⌜(rslot (Ring.sl 3 p)).view.read (Elt F) f = (xblk (Ring.bk 16 p)).view.read (Elt F) XA⌝
    -∗ rslotP c (Ring.sl 3 p) f -∗ lcell c (Ring.sl 3 p) -∗ xhome c XA (Ring.bk 16 p) -∗ MidP c XA p
    -∗ oslotP c (Ring.sl 2 p) fo -∗ scell c (Ring.sl 2 p) -∗ yblkP c (Ring.bk 16 p) Y0 -∗ WrM c L XA Y0 p
    -∗ tabP c a2 ga -∗ (∃ W, owes (c : Thread nD τ) 0 W) -∗ Q (tabOf c a2 ga))

theorem head_zero (h : (pt i).val = 0) (W) (Q : Vec F S256x256 .f32 → sProp 𝕄) :
    iprop(RdP c XA 0 ∗ WrP c L XA Y0 0 ∗ tabP c a2 ga ∗ owes (c : Thread nD τ) 0 W ∗ HeadPost c L XA Y0 a2 ga Q 0)
      ⊢ wp frame (wpE (defs₀ (F := F)) 𝒱₀ (c : Thread nD τ) none) Set.univ (headProg i a2) Q := by
  unfold RdP WrP HeadPost MidP WrM
  iintro ⟨HR, HS, Ha, HW, Hk⟩
  ihave HR' := (RingSteps.Rd_zero (lcell c) (rslotP c) (xhome c XA) (lflight c XA)) $$ HR
  icases HR' with ⟨Hx0, Hx1, Hx2, Hr0, Hr1, Hr2, Hrest⟩
  ihave HS' := (RingSteps.Wr_zero (freeS c) (inflS c L XA Y0) (fun b => yblkP c b Y0) (fun b => yblkP c b (outBuf L XA))) $$ HS
  icases HS' with ⟨⟨Hsc, %fo, Hso⟩, Hy, Hwr⟩
  iapply (head0 i c XA a2 ga h W Q)
  isplitl [Hx0 Hx1 Hx2 Hr0 Hr1 Hr2 Ha HW]
  · isplitl [Hx0]; · iexact Hx0
    isplitl [Hx1]; · iexact Hx1
    isplitl [Hx2]; · iexact Hx2
    isplitl [Hr0]; · iexact Hr0
    isplitl [Hr1]; · iexact Hr1
    isplitl [Hr2]; · iexact Hr2
    isplitl [Ha]; · iexact Ha
    iexact HW
  iintro %f %hf Hr Hc Hx Hf1 Hf2 Ha HW
  iapply Hk $$ %f %fo %hf [Hr] [Hc] [Hx] [Hf1 Hf2 Hrest] [Hso] [Hsc] [Hy] [Hwr] [Ha] [HW]
  · iexact Hr
  · iexact Hc
  · iexact Hx
  · iapply (RingSteps.Mid_zero (lcell c) (rslotP c) (xhome c XA) (lflight c XA))
    isplitl [Hf1]; · iexact Hf1
    isplitl [Hf2]; · iexact Hf2
    iexact Hrest
  · iexact Hso
  · iexact Hsc
  · iexact Hy
  · iexact Hwr
  · iexact Ha
  · iexact HW

theorem head_one (h : (pt i).val = 1) (W) (Q : Vec F S256x256 .f32 → sProp 𝕄) :
    iprop(RdP c XA 1 ∗ WrP c L XA Y0 1 ∗ tabP c a2 ga ∗ owes (c : Thread nD τ) 0 W ∗ HeadPost c L XA Y0 a2 ga Q 1)
      ⊢ wp frame (wpE (defs₀ (F := F)) 𝒱₀ (c : Thread nD τ) none) Set.univ (headProg i a2) Q := by
  unfold RdP WrP HeadPost MidP WrM
  iintro ⟨HR, HS, Ha, HW, Hk⟩
  ihave HR' := (RingSteps.Rd_open (lcell c) (rslotP c) (xhome c XA) (lflight c XA) 1 le_rfl (by decide)) $$ HR
  icases HR' with ⟨Hf, Hmid⟩
  ihave HS' := (RingSteps.Wr_one (freeS c) (inflS c L XA Y0) (fun b => yblkP c b Y0) (fun b => yblkP c b (outBuf L XA))) $$ HS
  icases HS' with ⟨⟨Hsc, %fo, Hso⟩, Hy, Hwr⟩
  have h1 := head1 i c XA a2 ga (by omega) (by omega) W Q
  rw [h] at h1
  iapply h1
  isplitl [Hf Ha HW]
  · isplitl [Hf]; · iexact Hf
    isplitl [Ha]; · iexact Ha
    iexact HW
  iintro %f %hf Hr Hc Hx Ha HW
  iapply Hk $$ %f %fo %hf [Hr] [Hc] [Hx] [Hmid] [Hso] [Hsc] [Hy] [Hwr] [Ha] [HW]
  · iexact Hr
  · iexact Hc
  · iexact Hx
  · iexact Hmid
  · iexact Hso
  · iexact Hsc
  · iexact Hy
  · iexact Hwr
  · iexact Ha
  · iexact HW

theorem head_later (p : ℕ) (h : (pt i).val = p) (h2 : 2 ≤ p) (hp : p < 16) (W) (Q : Vec F S256x256 .f32 → sProp 𝕄) :
    iprop(RdP c XA p ∗ WrP c L XA Y0 p ∗ tabP c a2 ga ∗ owes (c : Thread nD τ) 0 W ∗ HeadPost c L XA Y0 a2 ga Q p)
      ⊢ wp frame (wpE (defs₀ (F := F)) 𝒱₀ (c : Thread nD τ) none) Set.univ (headProg i a2) Q := by
  unfold RdP WrP HeadPost MidP WrM
  have es : Ring.sl 2 p = Ring.sl 2 (p - 2) := Fin.ext (by rw [sl2_val, sl2_val]; omega)
  iintro ⟨HR, HS, Ha, HW, Hk⟩
  ihave HR' := (RingSteps.Rd_open (lcell c) (rslotP c) (xhome c XA) (lflight c XA) p (by omega) hp) $$ HR
  icases HR' with ⟨Hf, Hmid⟩
  ihave HS' := (RingSteps.Wr_later (freeS c) (inflS c L XA Y0) (fun b => yblkP c b Y0) (fun b => yblkP c b (outBuf L XA)) p h2 hp) $$ HS
  rw [es]
  icases HS' with ⟨⟨%fs, %hfs, Hs⟩, Hy, Hwr⟩
  have h1 := fun fs => head2 i c XA Y0 a2 ga (by omega) fs W Q
  rw [h] at h1
  iapply (h1 fs)
  isplitl [Hf Hs Ha HW]
  · isplitl [Hf]; · iexact Hf
    isplitl [Hs]; · iexact Hs
    isplitl [Ha]; · iexact Ha
    iexact HW
  iintro %f %hf Hr Hc Hx Hy' Hsc Hso Ha HW
  ihave Hy'' := (entails_of_eq (stored_eq c L XA Y0 _ _ fs hfs)) $$ Hy'
  iapply Hk $$ %f %fs %hf [Hr] [Hc] [Hx] [Hmid] [Hso] [Hsc] [Hy] [Hwr Hy''] [Ha] [HW]
  · iexact Hr
  · iexact Hc
  · iexact Hx
  · iexact Hmid
  · iexact Hso
  · iexact Hsc
  · iexact Hy
  · iapply Hwr $$ Hy''
  · iexact Ha
  · iexact HW

/-- Before the chunks, at every point. -/
theorem head_spec (W) (Q : Vec F S256x256 .f32 → sProp 𝕄) :
    iprop(RdP c XA (pt i).val ∗ WrP c L XA Y0 (pt i).val ∗ tabP c a2 ga ∗ owes (c : Thread nD τ) 0 W ∗ HeadPost c L XA Y0 a2 ga Q (pt i).val)
      ⊢ wp frame (wpE (defs₀ (F := F)) 𝒱₀ (c : Thread nD τ) none) Set.univ (headProg i a2) Q := by
  rcases Nat.lt_or_ge (pt i).val 2 with h | h
  · rcases Nat.lt_or_ge (pt i).val 1 with h' | h'
    · have e : (pt i).val = 0 := by omega
      rw [e]; exact head_zero c L XA Y0 i a2 ga e W Q
    · have e : (pt i).val = 1 := by omega
      rw [e]; exact head_one c L XA Y0 i a2 ga e W Q
  · exact head_later c L XA Y0 i a2 ga _ rfl h (pt i).isLt W Q

/-- After the chunks: the store of the compressed block is started, and the next load. -/
theorem tail_spec (f : Buf (Elt F) ((rslot (Ring.sl 3 (pt i).val)).view.loc (c : Thread nD τ))) (fs : Buf (Elt F) ((oslot (Ring.sl 2 (pt i).val)).view.loc (c : Thread nD τ)))
    (hfs : (oslot (Ring.sl 2 (pt i).val)).view.read (Elt F) fs = outBlock L ((xblk (Ring.bk 16 (pt i).val)).view.read (Elt F) XA)) (W) (Q : BitVec 32 → sProp 𝕄) :
    iprop((rslotP c (Ring.sl 3 (pt i).val) f ∗ lcell c (Ring.sl 3 (pt i).val) ∗ xhome c XA (Ring.bk 16 (pt i).val) ∗ MidP c XA (pt i).val
      ∗ oslotP c (Ring.sl 2 (pt i).val) fs ∗ scell c (Ring.sl 2 (pt i).val) ∗ yblkP c (Ring.bk 16 (pt i).val) Y0 ∗ WrM c L XA Y0 (pt i).val
      ∗ owes (c : Thread nD τ) 0 W)
      ∗ (RdP c XA ((pt i).val + 1) -∗ WrN c L XA Y0 ((pt i).val + 1) -∗ (∃ W, owes (c : Thread nD τ) 0 W) -∗ Q (BitVec.ofNat 32 (i 0).val)))
      ⊢ wp frame (wpE (defs₀ (F := F)) 𝒱₀ (c : Thread nD τ) none) Set.univ (tailProg i) Q := by
  unfold MidP WrM RdP WrN
  rcases Nat.lt_or_ge (pt i).val 13 with h | h
  · have es : Ring.sl 3 (pt i).val = Ring.sl 3 ((pt i).val + 3) := (Ring.sl_add 3 _).symm
    iintro ⟨⟨Hr, Hc, Hx, Hmid, Hso, Hsc, Hy, Hwr, HW⟩, Hk⟩
    ihave Hmid' := (RingSteps.Mid_next (lcell c) (rslotP c) (xhome c XA) (lflight c XA) (pt i).val (by omega)) $$ Hmid
    icases Hmid' with ⟨Hx', Hmid⟩
    ihave Hr' := (show iprop(lcell c (Ring.sl 3 (pt i).val) ∗ rslotP c (Ring.sl 3 (pt i).val) f)
        ⊢ iprop(lcell c (Ring.sl 3 ((pt i).val + 3)) ∗ ∃ f, rslotP c (Ring.sl 3 ((pt i).val + 3)) f) from by
      rw [← es]; iintro ⟨Hc, Hr⟩; isplitl [Hc]; · iexact Hc
      iexists f; iexact Hr) $$ [Hc Hr]
    · isplitl [Hc]; · iexact Hc
      iexact Hr
    iapply (tail1 i c XA Y0 h fs W Q)
    isplitl [Hso Hsc Hy Hr' Hx' HW]
    · isplitl [Hso]; · iexact Hso
      isplitl [Hsc]; · iexact Hsc
      isplitl [Hy]; · iexact Hy
      isplitl [Hr']; · iexact Hr'
      isplitl [Hx']; · iexact Hx'
      iexact HW
    iintro Hs Hf HW
    iapply Hk $$ [Hmid Hx Hf] [Hwr Hs] [HW]
    · iapply Hmid $$ Hx Hf
    · iapply Hwr
      iexists fs
      isplitr; · ipureintro; exact hfs
      iexact Hs
    · iexact HW
  · iintro ⟨⟨Hr, Hc, Hx, Hmid, Hso, Hsc, Hy, Hwr, HW⟩, Hk⟩
    iapply (tail2 i c Y0 h fs W Q)
    isplitl [Hso Hsc Hy HW]
    · isplitl [Hso]; · iexact Hso
      isplitl [Hsc]; · iexact Hsc
      isplitl [Hy]; · iexact Hy
      iexact HW
    iintro Hs HW
    iapply Hk $$ [Hmid Hx Hc Hr] [Hwr Hs] [HW]
    · iapply (RingSteps.Mid_tail (lcell c) (rslotP c) (xhome c XA) (lflight c XA) (pt i).val (by omega) (pt i).isLt)
      isplitl [Hmid]; · iexact Hmid
      isplitl [Hx]; · iexact Hx
      isplitl [Hc]; · iexact Hc
      iexists f; iexact Hr
    · iapply Hwr
      iexists fs
      isplitr; · ipureintro; exact hfs
      iexact Hs
    · iexact HW

/-- At the end of a point: the last one awaits the two stores in flight. -/
theorem last_spec (W) (Q : PUnit → sProp 𝕄) :
    iprop((WrN c L XA Y0 ((pt i).val + 1) ∗ owes (c : Thread nD τ) 0 W)
      ∗ (WrP c L XA Y0 ((pt i).val + 1) -∗ (∃ W, owes (c : Thread nD τ) 0 W) -∗ Q ⟨⟩))
      ⊢ wp frame (wpE (defs₀ (F := F)) 𝒱₀ (c : Thread nD τ) none) Set.univ (lastProg i) Q := by
  unfold WrN WrP
  rcases Nat.lt_or_ge (pt i).val 15 with h | h
  · rw [Ring.AtBΦ_lt _ _ _ _ _ _ (by omega)]
    iintro ⟨⟨HS, HW⟩, Hk⟩
    iapply (last1 i c h Q)
    iapply Hk $$ [HS] [HW]
    · iexact HS
    · iexists _; iexact HW
  · have e : (pt i).val = 15 := by have := (pt i).isLt; omega
    have h1 := fun fs fs' => last2 i c Y0 e fs fs' W Q
    rw [e] at h1 ⊢
    iintro ⟨⟨HS, HW⟩, Hk⟩
    ihave HS' := (RingSteps.Wr_end (freeS c) (inflS c L XA Y0) (fun b => yblkP c b Y0) (fun b => yblkP c b (outBuf L XA))) $$ HS
    icases HS' with ⟨⟨%f4, %h4, Hs4⟩, ⟨%f5, %h5, Hs5⟩, Hend⟩
    iapply (h1 f5 f4)
    isplitl [Hs4 Hs5 HW]
    · isplitl [Hs4]; · iexact Hs4
      isplitl [Hs5]; · iexact Hs5
      iexact HW
    iintro Hy4 Hc4 Ho4 Hy5 Hc5 Ho5 HW
    ihave Hy4' := (entails_of_eq (stored_eq c L XA Y0 _ _ f4 h4)) $$ Hy4
    ihave Hy5' := (entails_of_eq (stored_eq c L XA Y0 _ _ f5 h5)) $$ Hy5
    iapply Hk $$ [Hend Hy4' Hy5' Hc4 Ho4 Hc5 Ho5] [HW]
    · iapply Hend $$ [Hy4'] [Hy5'] [Hc4 Ho4] [Hc5 Ho5]
      · iexact Hy4'
      · iexact Hy5'
      · isplitl [Hc4]; · iexact Hc4
        iexists f4; iexact Ho4
      · isplitl [Hc5]; · iexact Hc5
        iexists f5; iexact Ho5
    · iexact HW

/-- One grid point, whole. -/
theorem point_spec (h2 : a2.IsWhole) (hL : tabOf c a2 ga = L) (W) (Q : PUnit → sProp 𝕄) :
    iprop((RdP c XA (pt i).val ∗ WrP c L XA Y0 (pt i).val ∗ tabP c a2 ga ∗ owes (c : Thread nD τ) 0 W)
      ∗ (RdP c XA ((pt i).val + 1) -∗ WrP c L XA Y0 ((pt i).val + 1) -∗ tabP c a2 ga -∗ (∃ W, owes (c : Thread nD τ) 0 W) -∗ Q ⟨⟩))
      ⊢ wp frame (wpE (defs₀ (F := F)) 𝒱₀ (c : Thread nD τ) none) Set.univ
        (cc0__pcen_kernel (F := F) i xM (Memref.isWhole_whole _) a2 h2 yM (Memref.isWhole_whole _) rM (Memref.isWhole_whole _) oM (Memref.isWhole_whole _) cc0_scratch2 cc0_scratch3) Q := by
  rw [body_eq, wp_bind]
  iintro ⟨⟨HR, HS, Ha, HW⟩, Hk⟩
  iapply (head_spec c L XA Y0 i a2 ga W _)
  isplitl [HR]; · iexact HR
  isplitl [HS]; · iexact HS
  isplitl [Ha]; · iexact Ha
  isplitl [HW]; · iexact HW
  unfold HeadPost
  iintro %f %fo %hf Hr Hc Hx Hmid Hso Hsc Hy Hwr Ha ⟨%W1, HW⟩
  dsimp only
  rw [wp_bind, hL]
  iapply (chunkProg_spec i L c f fo _)
  isplitl [Hr]; · iexact Hr
  isplitl [Hso]; · iexact Hso
  iintro %fs %hfs Hr Hso
  rw [hf] at hfs
  rw [wp_bind]
  iapply (tail_spec c L XA Y0 i f fs hfs W1 _)
  isplitl [Hr Hc Hx Hmid Hso Hsc Hy Hwr HW]
  · isplitl [Hr]; · iexact Hr
    isplitl [Hc]; · iexact Hc
    isplitl [Hx]; · iexact Hx
    isplitl [Hmid]; · iexact Hmid
    isplitl [Hso]; · iexact Hso
    isplitl [Hsc]; · iexact Hsc
    isplitl [Hy]; · iexact Hy
    isplitl [Hwr]; · iexact Hwr
    iexact HW
  iintro HR HS ⟨%W2, HW⟩
  iapply (last_spec c L XA Y0 i W2 Q)
  isplitl [HS HW]
  · isplitl [HS]; · iexact HS
    iexact HW
  iintro HS HW
  iapply Hk $$ [HR] [HS] [Ha] [HW]
  · iexact HR
  · iexact HS
  · iexact Ha
  · iexact HW

end Point
end Cert.KernelIdeal.Ring
end
-- ==== Proof.KernelIdeal.Launch.lean ====
/-
  The launch: the sixteen points of the ring, from every array as the host operations leave it to the output whole at
  `outBuf` of the table and the input, the input unchanged and every semaphore counter at zero.
-/
module

public import proofs.«01_k».proof.Proof.KernelIdeal.Point
public import proofs.«01_k».proof.Proof.Gen.KernelIdeal.Frame
public import Idealize.ShloMosaic.Lib.Pipeline.KitQuiescent

@[expose] public section

noncomputable section

namespace Cert.KernelIdeal.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-- The pipeline's own resources within the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## What the region finds -/

/-- The input and the output array, and the table, as the region finds them. -/
abbrev X₀ (c : Dev nD) : Buf (Elt F) (xM.view.loc (c : Thread nD τ)) := V m c main_arg0
abbrev Y₀ (c : Dev nD) : Buf (Elt F) (yM.view.loc (c : Thread nD τ)) := V m c main_v0
abbrev Ltab (c : Dev nD) : Vec F S256x256 .f32 := V m c main_call0_v13

/-- The kernel's own semaphores: three for the loads, two for the stores. -/
abbrev osem : Fin 5 → SemLoc sig := fun
  | 0 => .dma (lsm 0).sem
  | 1 => .dma (lsm 1).sem
  | 2 => .dma (lsm 2).sem
  | 3 => .dma (ssm 0).sem
  | 4 => .dma (ssm 1).sem
theorem ownSemFacts : Pipeline.OwnSemFacts spec0 osem := by decide

/-! ## Element sets: the sixteen blocks, the three and the two slots -/

abbrev GB (b : Fin 16) : Finset S32x256x4096.Idx := (Rect.unit (s := S32x256x4096) (blkOff b) S2x256x4096.size (blkOff_inb b)).set
abbrev GR (s : Fin 3) : Finset S3x2x256x4096.Idx := (Rect.unit (s := S3x2x256x4096) (rOff s) S1x2x256x4096.size (rOff_inb s)).set
abbrev GO (s : Fin 2) : Finset S2x2x256x4096.Idx := (Rect.unit (s := S2x2x256x4096) (oOff s) S1x2x256x4096.size (oOff_inb s)).set

omit [FloatOps F] [Named F] in
theorem xblk_set (b : Fin 16) : (xblk b : Memref sig .tc .hbm _ _).view.set = GB b := View.set_slice_whole _ _
omit [FloatOps F] [Named F] in
theorem yblk_set (b : Fin 16) : (yblk b : Memref sig .tc .hbm _ _).view.set = GB b := View.set_slice_whole _ _
theorem rslot_set (s : Fin 3) : (rslot s : Memref sig .tc .vmem _ _).view.set = GR s := (View.set_reshape _ _).trans (View.set_slice_whole _ _)
theorem oslot_set (s : Fin 2) : (oslot s : Memref sig .tc .vmem _ _).view.set = GO s := (View.set_reshape _ _).trans (View.set_slice_whole _ _)

theorem mem_GB (b : Fin 16) (y : S32x256x4096.Idx) : y ∈ GB b ↔ 2 * b.val ≤ (y 0).val ∧ (y 0).val < 2 * b.val + 2 := by
  rw [Rect.mem_set_unit]
  have h1 : (y 1).val < 256 := (y 1).isLt
  have h2 : (y 2).val < 4096 := (y 2).isLt
  constructor
  · intro H; exact H 0
  · intro H i; fin_cases i
    · exact H
    · show 0 ≤ (y 1).val ∧ (y 1).val < 0 + 256; omega
    · show 0 ≤ (y 2).val ∧ (y 2).val < 0 + 4096; omega
theorem mem_GR (s : Fin 3) (y : S3x2x256x4096.Idx) : y ∈ GR s ↔ (y 0).val = s.val := by
  rw [Rect.mem_set_unit]
  have h1 : (y 1).val < 2 := (y 1).isLt
  have h2 : (y 2).val < 256 := (y 2).isLt
  have h3 : (y 3).val < 4096 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2; omega
    · show 0 ≤ (y 2).val ∧ (y 2).val < 0 + 256; omega
    · show 0 ≤ (y 3).val ∧ (y 3).val < 0 + 4096; omega
theorem mem_GO (s : Fin 2) (y : S2x2x256x4096.Idx) : y ∈ GO s ↔ (y 0).val = s.val := by
  rw [Rect.mem_set_unit]
  have h1 : (y 1).val < 2 := (y 1).isLt
  have h2 : (y 2).val < 256 := (y 2).isLt
  have h3 : (y 3).val < 4096 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2; omega
    · show 0 ≤ (y 2).val ∧ (y 2).val < 0 + 256; omega
    · show 0 ≤ (y 3).val ∧ (y 3).val < 0 + 4096; omega

theorem GB_disjoint : ∀ b b' : Fin 16, b ≠ b' → Disjoint (GB b) (GB b') := by
  intro b b' hne; rw [Finset.disjoint_left]; intro y hy hy'; rw [mem_GB] at hy hy'; exact hne (Fin.ext (by omega))
theorem GB_cover : (Finset.univ : Finset (Fin 16)).biUnion GB = Finset.univ := by
  ext y; simp only [Finset.mem_biUnion, Finset.mem_univ, true_and, iff_true]
  have h : (y 0).val < 32 := (y 0).isLt
  exact ⟨⟨(y 0).val / 2, by omega⟩, by rw [mem_GB]; show 2 * ((y 0).val / 2) ≤ _ ∧ _ < 2 * ((y 0).val / 2) + 2; omega⟩
theorem GR_disjoint : ∀ s s' : Fin 3, s ≠ s' → Disjoint (GR s) (GR s') := by
  intro s s' hne; rw [Finset.disjoint_left]; intro y hy hy'; rw [mem_GR] at hy hy'; exact hne (Fin.ext (hy.symm.trans hy'))
theorem GR_cover : (Finset.univ : Finset (Fin 3)).biUnion GR = Finset.univ := by
  ext y; simp only [Finset.mem_biUnion, Finset.mem_univ, true_and, iff_true]; exact ⟨(y 0).cast (by decide), by rw [mem_GR]; rfl⟩
theorem GO_disjoint : ∀ s s' : Fin 2, s ≠ s' → Disjoint (GO s) (GO s') := by
  intro s s' hne; rw [Finset.disjoint_left]; intro y hy hy'; rw [mem_GO] at hy hy'; exact hne (Fin.ext (hy.symm.trans hy'))
theorem GO_cover : (Finset.univ : Finset (Fin 2)).biUnion GO = Finset.univ := by
  ext y; simp only [Finset.mem_biUnion, Finset.mem_univ, true_and, iff_true]; exact ⟨(y 0).cast (by decide), by rw [mem_GO]; rfl⟩

theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [(0 : Fin 5), (1 : Fin 5), (2 : Fin 5), (3 : Fin 5), (4 : Fin 5)] (by decide) (by decide) Φ

/-- The input whole is its sixteen blocks home; the output whole its sixteen blocks. -/
theorem x_eq (c : Dev nD) (f : Buf (Elt F) (xM.view.loc (c : Thread nD τ))) :
    (((c : Thread nD τ).loc main_arg0) ↦{fullShare} f : sProp 𝕄) = bigSep Finset.univ (xhome c f) := by
  rw [Ring.pointsTo_blocks (ℓ := (c : Thread nD τ).loc main_arg0) GB GB_disjoint GB_cover]
  exact bigSep_congr fun b _ => by rw [← xblk_set]; rfl
theorem y_eq (c : Dev nD) (f : Buf (Elt F) (yM.view.loc (c : Thread nD τ))) :
    (((c : Thread nD τ).loc main_v0) ↦{fullShare} f : sProp 𝕄) = bigSep Finset.univ (fun b => yblkP c b f) := by
  rw [Ring.pointsTo_blocks (ℓ := (c : Thread nD τ).loc main_v0) GB GB_disjoint GB_cover]
  exact bigSep_congr fun b _ => by rw [← yblk_set]; rfl

theorem rslotP_eq (c : Dev nD) (s : Fin 3) (f) : rslotP c s f = (((c : Thread nD τ).loc cc0_scratch0) ↦[GR s]{fullShare} f : sProp 𝕄) :=
  congrArg (fun S => (_ ↦[S]{fullShare} f : sProp 𝕄)) (rslot_set s)
theorem oslotP_eq (c : Dev nD) (s : Fin 2) (f) : oslotP c s f = (((c : Thread nD τ).loc cc0_scratch1) ↦[GO s]{fullShare} f : sProp 𝕄) :=
  congrArg (fun S => (_ ↦[S]{fullShare} f : sProp 𝕄)) (oslot_set s)

/-- The input ring's buffer is its three slots, and back; -/
theorem rbuf_split (c : Dev nD) :
    iprop(∃ f : Buf (Elt F) ((c : Thread nD τ).loc cc0_scratch0), ((c : Thread nD τ).loc cc0_scratch0) ↦{fullShare} f)
      ⊢ (iprop((∃ f, rslotP c 0 f) ∗ (∃ f, rslotP c 1 f) ∗ ∃ f, rslotP c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) GR GR_disjoint GR_cover f).trans (bigSep_three _))) $$ H
  icases H2 with ⟨H0, H1, H2⟩
  isplitl [H0]
  · iexists f; iapply (entails_of_eq (rslotP_eq c 0 f).symm); iexact H0
  isplitl [H1]
  · iexists f; iapply (entails_of_eq (rslotP_eq c 1 f).symm); iexact H1
  · iexists f; iapply (entails_of_eq (rslotP_eq c 2 f).symm); iexact H2
theorem rbuf_join (c : Dev nD) :
    iprop((∃ f, rslotP c 0 f) ∗ (∃ f, rslotP c 1 f) ∗ ∃ f, rslotP c 2 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) GR GR_disjoint GR_cover f0)
  irw [bigSep_three]
  isplitl [H0]
  · iexists f0; iapply (entails_of_eq (rslotP_eq c 0 f0)); iexact H0
  isplitl [H1]
  · iexists f1; iapply (entails_of_eq (rslotP_eq c 1 f1)); iexact H1
  · iexists f2; iapply (entails_of_eq (rslotP_eq c 2 f2)); iexact H2
/-- the output ring's its two. -/
theorem obuf_split (c : Dev nD) :
    iprop(∃ f : Buf (Elt F) ((c : Thread nD τ).loc cc0_scratch1), ((c : Thread nD τ).loc cc0_scratch1) ↦{fullShare} f)
      ⊢ (iprop((∃ f, oslotP c 0 f) ∗ ∃ f, oslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) GO GO_disjoint GO_cover f).trans (bigSep_two _))) $$ H
  icases H2 with ⟨H0, H1⟩
  isplitl [H0]
  · iexists f; iapply (entails_of_eq (oslotP_eq c 0 f).symm); iexact H0
  · iexists f; iapply (entails_of_eq (oslotP_eq c 1 f).symm); iexact H1
theorem obuf_join (c : Dev nD) :
    iprop((∃ f, oslotP c 0 f) ∗ ∃ f, oslotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) GO GO_disjoint GO_cover f0)
  irw [bigSep_two]
  isplitl [H0]
  · iexists f0; iapply (entails_of_eq (oslotP_eq c 0 f0)); iexact H0
  · iexists f1; iapply (entails_of_eq (oslotP_eq c 1 f1)); iexact H1

/-- The kernel's own cells at zero are the five slots' cells. -/
theorem ownSems0_eq (c : Dev nD) : (Pipeline.ownSems0 (Ix := Unit) (Name := ℕ) (U := UU nD τ) (Lvl := ℕ) (Val := Elt F) (τ := τ) osem c : sProp 𝕄)
    = iprop(lcell c 0 ∗ lcell c 1 ∗ lcell c 2 ∗ scell c 0 ∗ scell c 1) := by
  unfold Pipeline.ownSems0; rw [bigSep_five]

/-! ## The rings before the first point and after the last -/

/-- Before the first point: every block home, every cell at zero, every slot at anything. -/
theorem rings_start (c : Dev nD) (L : Vec F S256x256 .f32) (XA : Buf (Elt F) (xM.view.loc (c : Thread nD τ))) (Y0 : Buf (Elt F) (yM.view.loc (c : Thread nD τ))) :
    iprop((bigSep Finset.univ (xhome c XA) ∗ bigSep Finset.univ (fun b => yblkP c b Y0))
      ∗ (lcell c 0 ∗ lcell c 1 ∗ lcell c 2 ∗ scell c 0 ∗ scell c 1)
      ∗ ((∃ f, rslotP c 0 f) ∗ (∃ f, rslotP c 1 f) ∗ ∃ f, rslotP c 2 f) ∗ ((∃ f, oslotP c 0 f) ∗ ∃ f, oslotP c 1 f))
      ⊢ iprop(RdP c XA 0 ∗ WrP c L XA Y0 0) := by
  unfold RdP WrP RingSteps.Rd
  rw [if_pos rfl, Ring.AtBΦ_lt _ _ _ _ _ 0 (by decide), Ring.AtB_zero]
  unfold Ring.At₀ Ring.AtB₀
  rw [bigSep_three, bigSep_two]
  iintro ⟨⟨Hx, Hy⟩, ⟨H0, H1, H2, H3, H4⟩, ⟨R0, R1, R2⟩, ⟨O0, O1⟩⟩
  isplitl [Hx H0 H1 H2 R0 R1 R2]
  · isplitl [Hx]; · iexact Hx
    isplitl [H0 R0]
    · isplitl [H0]; · iexact H0
      iexact R0
    isplitl [H1 R1]
    · isplitl [H1]; · iexact H1
      iexact R1
    isplitl [H2]; · iexact H2
    iexact R2
  isplitl [Hy]; · iexact Hy
  isplitl [H3 O0]
  · isplitl [H3]; · iexact H3
    iexact O0
  isplitl [H4]; · iexact H4
  iexact O1

/-- After the last: the input home as it was, and the load ring's cells at zero; -/
theorem reads_end (c : Dev nD) (XA : Buf (Elt F) (xM.view.loc (c : Thread nD τ))) :
    RdP c XA 16 ⊢ iprop(bigSep Finset.univ (xhome c XA) ∗ (lcell c 0 ∗ ∃ f, rslotP c 0 f) ∗ (lcell c 1 ∗ ∃ f, rslotP c 1 f) ∗ (lcell c 2 ∗ ∃ f, rslotP c 2 f)) :=
  (RingSteps.Rd_end (lcell c) (rslotP c) (xhome c XA) (lflight c XA)).trans (entails_of_eq (by unfold Ring.At₀; rw [bigSep_three]))
/-- the output at the whole result, and the store ring's cells at zero. -/
theorem writes_end (c : Dev nD) (L : Vec F S256x256 .f32) (XA : Buf (Elt F) (xM.view.loc (c : Thread nD τ))) (Y0 : Buf (Elt F) (yM.view.loc (c : Thread nD τ))) :
    WrP c L XA Y0 16 ⊢ iprop(bigSep Finset.univ (fun b => yblkP c b (outBuf L XA)) ∗ (scell c 0 ∗ ∃ f, oslotP c 0 f) ∗ (scell c 1 ∗ ∃ f, oslotP c 1 f)) :=
  entails_of_eq (by unfold WrP; rw [Ring.AtBΦ_end _ _ _ _ _ 16 rfl]; unfold Ring.AtBEnd; rw [bigSep_two])
theorem rings_end (c : Dev nD) (L : Vec F S256x256 .f32) (XA : Buf (Elt F) (xM.view.loc (c : Thread nD τ))) (Y0 : Buf (Elt F) (yM.view.loc (c : Thread nD τ))) :
    iprop(RdP c XA 16 ∗ WrP c L XA Y0 16)
      ⊢ iprop((bigSep Finset.univ (xhome c XA) ∗ bigSep Finset.univ (fun b => yblkP c b (outBuf L XA)))
      ∗ (lcell c 0 ∗ lcell c 1 ∗ lcell c 2 ∗ scell c 0 ∗ scell c 1)
      ∗ ((∃ f, rslotP c 0 f) ∗ (∃ f, rslotP c 1 f) ∗ ∃ f, rslotP c 2 f) ∗ ((∃ f, oslotP c 0 f) ∗ ∃ f, oslotP c 1 f)) := by
  iintro ⟨HR, HW⟩
  ihave HR' := (reads_end c XA) $$ HR
  ihave HW' := (writes_end c L XA Y0) $$ HW
  icases HR' with ⟨Hx, ⟨H0, R0⟩, ⟨H1, R1⟩, ⟨H2, R2⟩⟩
  icases HW' with ⟨Hy, ⟨H3, O0⟩, ⟨H4, O1⟩⟩
  isplitl [Hx Hy]
  · isplitl [Hx]; · iexact Hx
    iexact Hy
  isplitl [H0 H1 H2 H3 H4]
  · isplitl [H0]; · iexact H0
    isplitl [H1]; · iexact H1
    isplitl [H2]; · iexact H2
    isplitl [H3]; · iexact H3
    iexact H4
  isplitl [R0 R1 R2]
  · isplitl [R0]; · iexact R0
    isplitl [R1]; · iexact R1
    iexact R2
  isplitl [O0]; · iexact O0
  iexact O1

/-! ## The pipeline's proof data -/

/-- The staging buffer of the table. -/
abbrev st0 (t : Fin cfg0.N) : Memref sig .tc .vmem S256x256 .f32 := win0_0.stage (cfg0.slots t 0)
abbrev hst0 (t : Fin cfg0.N) : (st0 t).IsWhole := hstage0_0 ((cfg0.slots t 0).cast nbuf0_0)

/-- The rings before point `p` of the launch. -/
def ΦL (c : Dev nD) (p : ℕ) : sProp 𝕄 := iprop(RdP c (X₀ m c) p ∗ WrP c (Ltab m c) (X₀ m c) (Y₀ m c) p)

def dats (_ : Fin 1) (c : Dev nD) : Dat τ (Elt F) Unit ℕ (UU nD τ) ℕ cfg0 c where
  A w := V m c (Pipeline.arrRef spec0 w)
  after w t := match w with
    | ⟨0, _⟩ => iblk m c 0 t
  Φ t := ΦL m c t.val
  q _ := fullShare
  owed _ := 0

theorem after_w0 (c : Dev nD) (t : Fin cfg0.N) : (dats m 0 c).after 0 t = iblk m c 0 t := by dsimp only [dats]
theorem before_of {c : Dev nD} (dat : Dat τ (Elt F) Unit ℕ (UU nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w0 (c : Dev nD) (t : Fin cfg0.N) (d) : (dats m 0 c).before 0 t d = iblk m c 0 t :=
  before_of m (dats m 0 c) rfl (after_w0 m c) t d

/-- The one coordinate of a point is the point. -/
theorem pt_coords : ∀ t : Fin grid0.N, (pt (grid0.coords t)).val = t.val := by decide

/-- The table's block is the table. -/
theorem tab_eq (c : Dev nD) (t : Fin cfg0.N) : tabOf c (st0 t) ((st0 t).view.rep (iblk m c 0 t)) = Ltab m c := by
  funext j
  unfold tabOf
  rw [View.readAt_apply, View.read_rep]
  unfold iblk; rw [View.read_apply]
  show V m c main_call0_v13 _ = V m c main_call0_v13 j
  congr 1
  funext a
  apply Fin.ext
  fin_cases a
  · show 0 * 256 + 1 * (0 + 1 * (j 0).val) = (j 0).val; omega
  · show 0 * 256 + 1 * (0 + 1 * (j 1).val) = (j 1).val; omega

theorem defs_tc : (defs₀ (F := F)) .tc cfg0.body
    = fun a => cc0__pcen_kernel (F := F) (grid0.coords a.1) xM (Memref.isWhole_whole _) (win0_0.stage (a.2 0)) (hstage0_0 ((a.2 0).cast nbuf0_0)) yM (Memref.isWhole_whole _) rM (Memref.isWhole_whole _) oM (Memref.isWhole_whole _) cc0_scratch2 cc0_scratch3 := rfl
theorem prog_eq (t : Fin cfg0.N) : (defs₀ (F := F)) .tc cfg0.body (cfg0.bodyArgs t (cfg0.slots t))
    = cc0__pcen_kernel (F := F) (grid0.coords t) xM (Memref.isWhole_whole _) (st0 t) (hst0 t) yM (Memref.isWhole_whole _) rM (Memref.isWhole_whole _) oM (Memref.isWhole_whole _) cc0_scratch2 cc0_scratch3 :=
  (congrFun defs_tc _).trans rfl

set_option backward.isDefEq.respectTransparency.types false in
theorem body_obligation (c : Dev nD) : BodyObligation (dats (F := F) m 0 c) (defs₀ (F := F)) 𝒱₀ () Set.univ := fun t => by
  have hp := pt_coords t
  have hs := fun W Q => point_spec c (Ltab m c) (X₀ m c) (Y₀ m c) (grid0.coords t) (st0 t) ((st0 t).view.rep (iblk m c 0 t)) (hst0 t) (tab_eq m c t) W Q
  rw [hp] at hs
  rw [bigSep_W0, bigSep_W0]
  dsimp only
  simp only [before_w0, after_w0]
  rw [show (dats m 0 c).Φ t.castSucc = ΦL m c t.val from rfl, show (dats m 0 c).Φ t.succ = ΦL m c (t.val + 1) from rfl]
  unfold Dat.owesAt Pipeline.owesWithin
  rw [show (dats m 0 c).owed t.castSucc = 0 from rfl, show (dats m 0 c).owed t.succ = 0 from rfl]
  unfold owns ΦL
  iintro ⟨⟨HR, HS⟩, ⟨%W, -, HW⟩, ⟨%d0, %g0, %hg0, Ha⟩⟩
  ihave Ha' := (pointsTo_rep_entails (c : Thread nD τ) (st0 t) g0 fullShare) $$ Ha
  rw [hg0]
  sl_rw [prog_eq t]
  iapply (hs W _)
  isplitl [HR HS Ha' HW]
  · isplitl [HR]; · iexact HR
    isplitl [HS]; · iexact HS
    isplitl [Ha']; · iexact Ha'
    iexact HW
  · iintro HR HS Ha ⟨%W', HW⟩
    isplitl [HR HS]
    · isplitl [HR]; · iexact HR
      iexact HS
    isplitl [HW]
    · iexists W'; isplitr; · ipureintro; exact fun _ _ => Or.inl trivial
      iexact HW
    iexists _; isplitr; · ipureintro; exact View.read_rep _ _
    iexact Ha

/-! ## The run -/

def intoΦ (c : Dev nD) : sProp 𝕄 :=
  iprop((bigSep Finset.univ (xhome c (X₀ m c)) ∗ bigSep Finset.univ (fun b => yblkP c b (Y₀ m c))) ∗ Pipeline.ownSems0 osem c)
def outOfΦ (c : Dev nD) : sProp 𝕄 :=
  iprop((((c : Thread nD τ).loc main_arg0) ↦{fullShare} X₀ m c) ∗ ((c : Thread nD τ).loc main_v0) ↦{fullShare} (outBuf (Ltab m c) (X₀ m c) : Buf (Elt F) (yM.view.loc (c : Thread nD τ))))
def u₀ : UU nD τ := (initOf (Pipeline.cells cfgs Cert.KernelIdeal.Gen.cellOf_inj) (Pipeline.launchToks cfgs Cert.KernelIdeal.Gen.cellOf_inj), 1)
def QY (c : Dev nD) (s : MemSt nD τ sig (Elt F)) : Prop :=
  s.mem ((c : Thread nD τ).loc main_arg0) = X₀ m c ∧ s.mem ((c : Thread nD τ).loc main_v0) = outBuf (Ltab m c) (X₀ m c)

set_option backward.isDefEq.respectTransparency.types false in
/-- From any memory with zero counters, for any float values: every weakly fair execution of the program terminates with
    the output at `outBuf` of the table and the input, the input as the region found it and every counter at zero. -/
theorem run_region : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := fun _ => iprop(emp))
    (hX := fun c => by
      rw [unscopedRest0_eq]
      unfold intoΦ
      rw [← x_eq c (X₀ m c), ← y_eq c (Y₀ m c)]
      iintro ⟨⟨H0, -, -, -, -, -, -, -, -, -, -, -, -, -, -, -, -, -, -, -, H1⟩, HS, -, -, -⟩
      imodintro
      isplitl [H0 H1 HS]
      · isplitl [H0 H1]
        · isplitl [H0]; · iexact H0
          iexact H1
        iexact HS
      iempintro)
    (hin := fun c => by
      rw [scopedRest0_eq, show (dats m 0 c).Φ 0 = ΦL m c 0 from rfl]
      unfold intoΦ ΦL; rw [ownSems0_eq]
      iintro ⟨⟨HB, HC⟩, HR, HO⟩
      ihave HR' := (rbuf_split c) $$ HR
      ihave HO' := (obuf_split c) $$ HO
      iapply (rings_start c (Ltab m c) (X₀ m c) (Y₀ m c))
      isplitl [HB]; · iexact HB
      isplitl [HC]; · iexact HC
      isplitl [HR']; · iexact HR'
      iexact HO')
    (hout := fun c => by
      rw [scopedRest0_eq, show (dats m 0 c).Φ (Fin.last cfg0.N) = ΦL m c 16 from congrArg (ΦL m c) N_0, ownSems0_eq]
      unfold ΦL outOfΦ
      iintro H
      ihave H' := (rings_end c (Ltab m c) (X₀ m c) (Y₀ m c)) $$ H
      rw [x_eq c (X₀ m c), y_eq c (outBuf (Ltab m c) (X₀ m c))]
      icases H' with ⟨HB, HC, HR, HO⟩
      isplitl [HB]; · iexact HB
      isplitl [HC]; · iexact HC
      isplitl [HR]
      · iapply (rbuf_join c); iexact HR
      iapply (obuf_join c); iexact HO)
    (QY := QY m)
    (hY := fun c s' => by
      unfold outOfΦ
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨fun c => (hh c).2, hz⟩)

/-- The run, the input's contents named as at launch. -/
theorem run_main : θ_run defs (onTc (τ := τ) (main (F := F))) ⟨m, fun _ => 0, ρ⟩
    (fun r => (∀ c : Dev nD, r.2.mem ((c.tc : Thread nD τ).loc main_v0) = outBuf (Ltab m c) (m ((c.tc : Thread nD τ).loc main_arg0))
      ∧ r.2.mem ((c.tc : Thread nD τ).loc main_arg0) = m ((c.tc : Thread nD τ).loc main_arg0)) ∧ r.2.sem = fun _ => 0) :=
  (θ_run defs _ _).mono (fun r h => ⟨fun c => ⟨(h.1 c).2.trans (congrArg (outBuf (Ltab m c)) (V_main_arg0 m c)), (h.1 c).1.trans (V_main_arg0 m c)⟩, h.2⟩) (run_region m ρ)

end Cert.KernelIdeal.Ring

end
-- ==== Proof.Frames.lean ====
/-
  The frames of the kernel, and what its idealization preserves. The idealized kernel differs from the kernel only in its
  named constants: at the kernel's words, each name read as its word, the two programs are one program, so the run proved of
  the one is the run of the other.
-/
module

public import proofs.«01_k».proof.Proof.KernelIdeal.Launch
public import proofs.«01_k».proof.Proof.Gen.Kernel
public import proofs.«01_k».proof.Proof.Gen.Pre_nonnegative
public import proofs.«01_k».proof.Defs

@[expose] public section

noncomputable section

namespace Cert.Frames

open Idealize.ShloMosaic Idealize.ShloMosaic.TcCoe Idealize.SL.Sem

/-! ## The idealized kernel -/

/-- The idealized kernel's text, at any float values and any reading of its names, from any memory: it terminates with the
    input unchanged and every counter at zero. -/
theorem quiet {F : FTy → Type} [FloatOps F] [Named F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run (Cert.KernelIdeal.defs (F := F)) _ _).mono (fun _ h => ⟨fun c => (h.1 c).2, h.2⟩) (Cert.KernelIdeal.Ring.run_main m g)

/-- The idealized kernel's frame, without a precondition and with one. -/
theorem quiescent_KernelIdeal : Cert.quiescent_KernelIdeal (hKernelIdeal := Cert.KernelIdeal.Gen.facts) := fun m g _ => quiet m g
theorem quiescent_KernelIdeal_pre : Cert.quiescent_KernelIdeal_pre_nonnegative (hKernelIdeal := Cert.KernelIdeal.Gen.facts)
    (hPre_nonnegative := Cert.Pre_nonnegative.Gen.facts) := fun m g _ => quiet m g

/-! ## The kernel -/

/-- Each name read as the word it stands for. -/
local instance : Named Bits where
  named _ _ {φ} bits := FloatOps.ofBits φ bits

/-- With the names read so, the label tables, the definitions and the main function of the two programs are the same. -/
theorem defs₀_eq : Cert.Kernel.defs₀ (F := Bits) = Cert.KernelIdeal.defs₀ (F := Bits) := by
  unfold Cert.Kernel.defs₀ Cert.KernelIdeal.defs₀
  refine congrArg (Defs.onTc (Λ := Cert.Kernel.Λ₀)) ?_
  funext l a
  match l, a with
  | 0, (t, s) => rfl
theorem defs_eq : Cert.Kernel.defs (F := Bits) = Cert.KernelIdeal.defs (F := Bits) :=
  congrArg (Pipeline.defs (Cert.Kernel.pcfgs (F := Bits))) defs₀_eq
theorem main_eq : Cert.Kernel.main (F := Bits) = Cert.KernelIdeal.main (F := Bits) := rfl

/-- The kernel's frame. -/
theorem quiescent_Kernel : Cert.quiescent_Kernel (hKernel := Cert.Kernel.Gen.facts) := fun m g _ =>
  (congrArg₂ (fun D M => θ_run D (onTc (τ := Cert.Kernel.τ) M) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)) defs_eq main_eq).mpr (quiet (F := Bits) m g)

/-! ## What the idealization preserves -/

/-- Each named constant is the word it stands for, at the words. -/
theorem preserves : Cert.preserves_Kernel_KernelIdeal :=
  ⟨IdealRules.named_const.statement Cert.KernelIdeal.κ "decay_ratio" .f32 0x421C0000#32 ((523449152 / 13421773 : ℝ) : EReal) rfl,
   IdealRules.named_const.statement Cert.KernelIdeal.κ "inv_ln2" .f32 0x3FB8AA3B#32 (((Real.log 2)⁻¹ : ℝ) : EReal) rfl,
   IdealRules.named_const.statement Cert.KernelIdeal.κ "sqrt_delta" .f32 0x3FB504F3#32 ((Real.sqrt 2 : ℝ) : EReal) rfl⟩

end Cert.Frames

end
-- ==== Proof.Reference.lean ====
/-
  The frame of the reference: the generated run says it terminates with its input unchanged, and a program that declares no
  semaphore has no counter to leave.
-/
module

public import proofs.«01_k».proof.Proof.Gen.ReferenceIdeal.Run
public import proofs.«01_k».proof.Proof.Gen.Pre_nonnegative
public import proofs.«01_k».proof.Defs
public import Idealize.ShloMosaic.Lib.Quiescent

@[expose] public section

noncomputable section

namespace Cert.Reference

open Idealize.ShloMosaic Idealize.ShloMosaic.TcCoe Idealize.SL.Sem
open Cert.ReferenceIdeal

/-- The reference, from any memory: it terminates with the input unchanged and every counter at zero. -/
theorem quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)) ∧ r.2.sem = fun _ => 0) :=
  (θ_run (defs (F := Ideal)) _ _).mono (fun r h => ⟨fun c => (h c).2, sem_eq_zero_of_no_sems (by decide) r.2⟩) (Cert.ReferenceIdeal.Value.run m g)

/-- The reference's frame, without a precondition and with one. -/
theorem quiescent_ReferenceIdeal : Cert.quiescent_ReferenceIdeal (hReferenceIdeal := Cert.ReferenceIdeal.Gen.facts) := fun m g _ => quiet m g
theorem quiescent_ReferenceIdeal_pre : Cert.quiescent_ReferenceIdeal_pre_nonnegative (hReferenceIdeal := Cert.ReferenceIdeal.Gen.facts)
    (hPre_nonnegative := Cert.Pre_nonnegative.Gen.facts) := fun m g _ => quiet m g

end Cert.Reference

end
-- ==== Proof.Value.Consts.lean ====
/-
  The two programs' literals over the reals: what number each float word is.
-/
module

public import Idealize.ShloMosaic.PureOps.Ideal

@[expose] public section

noncomputable section

namespace Cert.Consts

open Idealize.ShloMosaic

/-- The smoother's coefficient of the new frame, its coefficient of the carry, the exponent and the additive constant, as the
    float words they are. -/
def s : ℝ := 13421773 / 2 ^ 29
def q : ℝ := 16357786 / 2 ^ 24
def α : ℝ := 16441672 / 2 ^ 24
def ε : ℝ := 8796093 / 2 ^ 43

theorem s_pos : 0 < s := by norm_num [s]
theorem q_pos : 0 < q := by norm_num [q]
theorem α_pos : 0 < α := by norm_num [α]
theorem ε_pos : 0 < ε := by norm_num [ε]
/-- The named ratio of the coefficients, times the one, is the other. -/
theorem s_ratio : s * (523449152 / 13421773) = q := by norm_num [s, q]

theorem word_s : Ideal.ofBits .f32 0x3CCCCCCD#32 = (s : EReal) := by
  simp [Ideal.ofBits, Ideal.ieee, -EReal.coe_mul, s]; norm_num
theorem word_q : Ideal.ofBits .f32 0x3F79999A#32 = (q : EReal) := by
  simp [Ideal.ofBits, Ideal.ieee, -EReal.coe_mul, q]; norm_num
theorem word_α : Ideal.ofBits .f32 0x3F7AE148#32 = (α : EReal) := by
  simp [Ideal.ofBits, Ideal.ieee, -EReal.coe_mul, α]; norm_num
theorem word_neg_α : Ideal.ofBits .f32 0xBF7AE148#32 = ((-α : ℝ) : EReal) := by
  simp [Ideal.ofBits, Ideal.ieee, -EReal.coe_mul, -EReal.coe_neg, α]; norm_num
theorem word_ε : Ideal.ofBits .f32 0x358637BD#32 = (ε : EReal) := by
  simp [Ideal.ofBits, Ideal.ieee, -EReal.coe_mul, ε]; norm_num
theorem word_zero : Ideal.ofBits .f32 0x00000000#32 = 0 := by
  simp [Ideal.ofBits, Ideal.ieee]
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num

end Cert.Consts

end
-- ==== Proof.Value.Scan.lean ====
/-
  The smoother: the recursion `m ↦ q·m + s·x`, its closed form, and the chunked form of it. Over nonnegative extended reals
  these are facts of a commutative semiring, carried over from the nonnegative extended reals `ℝ≥0∞`.
-/
module

public import Idealize.ShloMosaic.PureOps.Ideal
public import Idealize.ShloMosaic.Lib.ValueIdx

@[expose] public section

noncomputable section

namespace Cert.Scan

open Finset Idealize.ShloMosaic Idealize.ShloMosaic.ValueIdx

/-- The smoother started from `C`, after `n` frames. -/
def ema {R : Type} [Add R] [Mul R] (q s C : R) (x : ℕ → R) : ℕ → R
  | 0 => C
  | n + 1 => q * ema q s C x n + s * x n

/-- Running `n` frames and then `k` more is running `n + k`. -/
theorem ema_add {R : Type} [Add R] [Mul R] (q s C : R) (x : ℕ → R) (n : ℕ) : ∀ k : ℕ,
    ema q s (ema q s C x n) (fun i => x (n + i)) k = ema q s C x (n + k)
  | 0 => rfl
  | k + 1 => by
    show q * ema q s (ema q s C x n) (fun i => x (n + i)) k + s * x (n + k) = q * ema q s C x (n + k) + s * x (n + k)
    rw [ema_add q s C x n k]

/-- The smoother's frames matter only as far as it has run. -/
theorem ema_congr {R : Type} [Add R] [Mul R] (q s C : R) (x y : ℕ → R) : ∀ n : ℕ, (∀ k < n, x k = y k) → ema q s C x n = ema q s C y n
  | 0, _ => rfl
  | n + 1, h => by
    show q * ema q s C x n + s * x n = q * ema q s C y n + s * y n
    rw [ema_congr q s C x y n fun k hk => h k (by omega), h n (by omega)]

/-- The closed form: each frame's weight decays with its age, and so does the start's. -/
theorem ema_closed {R : Type} [CommSemiring R] (q s C : R) (x : ℕ → R) : ∀ n : ℕ,
    ema q s C x n = (∑ k ∈ range n, x k * (s * q ^ (n - 1 - k))) + C * q ^ n
  | 0 => by simp [ema]
  | n + 1 => by
    show q * ema q s C x n + s * x n = _
    rw [ema_closed q s C x n, sum_range_succ, mul_add, mul_sum]
    have h : ∀ k ∈ range n, q * (x k * (s * q ^ (n - 1 - k))) = x k * (s * q ^ (n + 1 - 1 - k)) := fun k hk => by
      rw [show n + 1 - 1 - k = (n - 1 - k) + 1 by have := mem_range.mp hk; omega, pow_succ]; ring
    rw [sum_congr rfl h, show n + 1 - 1 - n = 0 by omega, pow_zero, pow_succ]; ring

/-! ## Over the extended reals -/

/-- A nonnegative real, as an extended nonnegative real, and back. -/
theorem coe_ofReal {r : ℝ} (h : 0 ≤ r) : ((ENNReal.ofReal r : ENNReal) : EReal) = (r : EReal) := by
  rw [EReal.coe_ennreal_ofReal, max_eq_left h]

/-- A finite sum of extended nonnegative reals, read among the extended reals. -/
theorem coe_sum {ι : Type} (t : Finset ι) (f : ι → ENNReal) : ((∑ k ∈ t, f k : ENNReal) : EReal) = ∑ k ∈ t, (f k : EReal) := by
  classical
  induction t using Finset.induction_on with
  | empty => simp
  | insert a t ha ih => rw [sum_insert ha, sum_insert ha, EReal.coe_ennreal_add, ih]

variable {q s : ℝ} (hq : 0 ≤ q) (hs : 0 ≤ s)

include hq hs in
/-- The smoother of nonnegative frames is that of the extended nonnegative reals. -/
theorem ema_coe (C : ENNReal) (x : ℕ → ENNReal) : ∀ n : ℕ,
    ema (q : EReal) (s : EReal) (C : EReal) (fun k => (x k : EReal)) n = ((ema (ENNReal.ofReal q) (ENNReal.ofReal s) C x n : ENNReal) : EReal)
  | 0 => rfl
  | n + 1 => by
    show (q : EReal) * ema (q : EReal) (s : EReal) (C : EReal) (fun k => (x k : EReal)) n + (s : EReal) * (x n : EReal) = ((ENNReal.ofReal q * ema (ENNReal.ofReal q) (ENNReal.ofReal s) C x n + ENNReal.ofReal s * x n : ENNReal) : EReal)
    rw [ema_coe C x n, EReal.coe_ennreal_add, EReal.coe_ennreal_mul, EReal.coe_ennreal_mul, coe_ofReal hq, coe_ofReal hs]

include hq hs in
/-- The smoother of nonnegative frames is nonnegative. -/
theorem ema_nonneg {C : EReal} (hC : 0 ≤ C) {x : ℕ → EReal} (hx : ∀ k, 0 ≤ x k) (n : ℕ) : 0 ≤ ema (q : EReal) (s : EReal) C x n := by
  lift C to ENNReal using hC
  lift x to ℕ → ENNReal using hx
  rw [ema_coe hq hs]; exact EReal.coe_ennreal_nonneg _

include hq in
/-- Just after an infinite frame the smoother is infinite. -/
theorem ema_top (hs' : 0 < s) {C : EReal} (hC : 0 ≤ C) {x : ℕ → EReal} (hx : ∀ k, 0 ≤ x k) (n : ℕ) (h : x n = ⊤) :
    ema (q : EReal) (s : EReal) C x (n + 1) = ⊤ := by
  show (q : EReal) * ema (q : EReal) (s : EReal) C x n + (s : EReal) * x n = ⊤
  rw [h, EReal.coe_mul_top_of_pos hs']
  refine EReal.add_top_of_ne_bot fun hb => ?_
  have h0 : (0 : EReal) ≤ (q : EReal) * ema (q : EReal) (s : EReal) C x n :=
    mul_nonneg (EReal.coe_nonneg.mpr hq) (ema_nonneg hq hs'.le hC hx n)
  rw [hb] at h0
  exact absurd (lt_of_le_of_lt h0 EReal.bot_lt_zero) (lt_irrefl _)

/-- The table's entry of frame `k` at position `t`. -/
def entry (q s : ℝ) (k t : ℕ) : EReal := if k ≤ t then ((s * q ^ (t - k) : ℝ) : EReal) else 0

include hq hs in
/-- One chunk: the product with the table, plus the carry decayed, is the smoother run from the carry. -/
theorem chunk {N : ℕ} {C : EReal} (hC : 0 ≤ C) {x : ℕ → EReal} (hx : ∀ k, 0 ≤ x k) (t : Fin N) :
    (∑ k : Fin N, x k.val * entry q s k.val t.val) + C * ((q ^ (t.val + 1) : ℝ) : EReal) = ema (q : EReal) (s : EReal) C x (t.val + 1) := by
  lift C to ENNReal using hC
  lift x to ℕ → ENNReal using hx
  rw [ema_coe hq hs, ema_closed, EReal.coe_ennreal_add, EReal.coe_ennreal_mul, coe_sum, ← ENNReal.ofReal_pow hq, coe_ofReal (pow_nonneg hq _)]
  refine congrArg (· + _) ?_
  rw [Fin.sum_univ_eq_sum_range (fun k => (x k : EReal) * entry q s k t.val) N]
  refine ((sum_subset (range_subset_range.mpr (by omega : t.val + 1 ≤ N)) fun k _ hk => ?_).symm).trans (sum_congr rfl fun k hk => ?_)
  · rw [entry, if_neg (by rw [mem_range] at hk; omega), mul_zero]
  · rw [entry, if_pos (by rw [mem_range] at hk; omega), EReal.coe_ennreal_mul, show t.val + 1 - 1 - k = t.val - k by omega, ← ENNReal.ofReal_pow hq,
      ← ENNReal.ofReal_mul hs, coe_ofReal (mul_nonneg hs (pow_nonneg hq _))]

/-! ## The frames of one frequency -/

/-- The frames of batch row `b` at frequency `f`, followed by zeros. -/
def row (X : (⟨3, ![32, 256, 4096]⟩ : Shape).Idx → EReal) (b : Fin 32) (f : Fin 256) (t : ℕ) : EReal :=
  if h : t < 4096 then X (ix3 b f ⟨t, h⟩) else 0

theorem row_of_lt (X : (⟨3, ![32, 256, 4096]⟩ : Shape).Idx → EReal) (b : Fin 32) (f : Fin 256) {t : ℕ} (h : t < 4096) :
    row X b f t = X (ix3 b f ⟨t, h⟩) := dif_pos h

theorem row_nonneg {X : (⟨3, ![32, 256, 4096]⟩ : Shape).Idx → EReal} (hX : ∀ i, 0 ≤ X i) (b : Fin 32) (f : Fin 256) (t : ℕ) : 0 ≤ row X b f t := by
  unfold row; split
  · exact hX _
  · exact le_refl _

end Cert.Scan

end
-- ==== Proof.Value.Table.lean ====
/-
  The table the kernel builds before its grid runs: entry `(k, t)` is the weight of frame `k` of a chunk in the
  smoother's value at frame `t` of the same chunk.
-/
module

public import proofs.«01_k».proof.Proof.Value.Consts
public import proofs.«01_k».proof.Proof.Value.Scan
public import proofs.«01_k».proof.Proof.KernelIdeal.Launch
public import Idealize.ShloMosaic.Lib.Pipeline.Value
public import Idealize.ShloMosaic.Lib.ValueLayout
public import Idealize.ShloMosaic.Lib.WordCmp
public import Idealize.ShloMosaic.Lib.StableHlo.RunRead

@[expose] public section

noncomputable section

namespace Cert.KernelValue

open Idealize.ShloMosaic Idealize.ShloMosaic.ValueIdx Idealize.ShloMosaic.TcCoe Idealize.ShloMosaic.StableHlo Idealize.SL.Sem
open Cert.KernelIdeal Cert.KernelIdeal.Gen Cert.KernelIdeal.Ring
open Cert.Consts Cert.Scan

/-- The distances from row to column, as words. -/
def dist : IVec S256x256 32 :=
  subi (broadcastInDim S256x256 ![0, 1] bcast_S1x256_S256x256_0_1 (broadcastInDim S1x256 ![1] bcast_S256_S1x256_1 (iotaInDim S256 32 0)))
    (broadcastInDim S256x256 ![0, 1] bcast_S256x1_S256x256_0_1 (broadcastInDim S256x1 ![0] bcast_S256_S256x1_0 (iotaInDim S256 32 0)))

theorem dist_apply (k t : Fin 256) : dist (ix2 k t) = BitVec.ofNat 32 t.val - BitVec.ofNat 32 k.val := by
  have hc : broadcastInDim S256x256 ![0, 1] bcast_S1x256_S256x256_0_1 (broadcastInDim S1x256 ![1] bcast_S256_S1x256_1 (iotaInDim S256 32 0)) (ix2 k t)
      = BitVec.ofNat 32 t.val :=
    (broadcastInDim_apply ![0, 1] bcast_S1x256_S256x256_0_1 _ (ix2 k t) (ix2 0 t) fun a => by
      match a with
      | 0 => rfl
      | 1 => rfl).trans (broadcastInDim_apply ![1] bcast_S256_S1x256_1 _ (ix2 0 t) (ix1 t) fun a => by
        match a with
        | 0 => rfl)
  have hr : broadcastInDim S256x256 ![0, 1] bcast_S256x1_S256x256_0_1 (broadcastInDim S256x1 ![0] bcast_S256_S256x1_0 (iotaInDim S256 32 0)) (ix2 k t)
      = BitVec.ofNat 32 k.val :=
    (broadcastInDim_apply ![0, 1] bcast_S256x1_S256x256_0_1 _ (ix2 k t) (ix2 k 0) fun a => by
      match a with
      | 0 => rfl
      | 1 => rfl).trans (broadcastInDim_apply ![0] bcast_S256_S256x1_0 _ (ix2 k 0) (ix1 k) fun a => by
        match a with
        | 0 => rfl)
  exact congrArg₂ (fun a b : BitVec 32 => a - b) hc hr

/-- The distance's word read as an integer is the distance. -/
theorem dist_toInt (k t : Fin 256) : (dist (ix2 k t)).toInt = (t.val : Int) - k.val := by
  rw [dist_apply, BitVec.toInt_sub, WordCmp.toInt_ofNat_of_lt (by have := t.isLt; omega), WordCmp.toInt_ofNat_of_lt (by have := k.isLt; omega)]
  have := t.isLt; have := k.isLt
  rw [Int.bmod_eq_of_le] <;> omega

/-- The table is the smoother's weights: none for the frames to come. -/
theorem table (m : (ℓ : Loc nD τ sig) → Buf (Elt Ideal) ℓ) (c : Dev nD) (k t : Fin 256) :
    Ltab m c (ix2 k t) = entry q s k.val t.val := by
  have h : Ltab m c = select (cmpi .sge dist (broadcastInDim S256x256 ![] bcast_S_S256x256 (constantI S_ 32 0#32)))
      (mulf (broadcastInDim S256x256 ![] bcast_S_S256x256 (constant (F := Ideal) S_ .f32 0x3CCCCCCD#32))
        (Host.powf (broadcastInDim S256x256 ![] bcast_S_S256x256 (constant (F := Ideal) S_ .f32 0x3F79999A#32)) (sitofp .f32 dist)))
      (broadcastInDim S256x256 ![] bcast_S_S256x256 (constant (F := Ideal) S_ .f32 0x00000000#32)) := by
    unfold Ltab V dist
    after_reads_simp
    rfl
  rw [h]
  show (if IntOp.cmpi .sge (dist (ix2 k t)) 0#32 = 1#1
    then Ideal.ofBits .f32 0x3CCCCCCD#32 * Ideal.pow (Ideal.ofBits .f32 0x3F79999A#32) (((dist (ix2 k t)).toInt : ℝ) : EReal)
    else Ideal.ofBits .f32 0x00000000#32) = _
  have hd : decide ((0#32).toInt ≤ (t.val : Int) - k.val) = decide (k.val ≤ t.val) :=
    decide_eq_decide.mpr (by rw [BitVec.toInt_zero]; omega)
  rw [WordCmp.cmpi_sge_eq, dist_toInt, hd, word_s, word_q, word_zero, Ideal.pow_coe_coe]
  unfold entry
  by_cases hk : k.val ≤ t.val
  · have e : ((((t.val : Int) - k.val : Int) : ℝ)) = ((t.val - k.val : ℕ) : ℝ) := by push_cast [hk]; ring
    rw [if_pos hk, if_pos (by rw [decide_eq_true hk]; rfl), e, EReal.coe_mul]
    show _ * ((q ^ (((t.val - k.val : ℕ) : ℝ)) : ℝ) : EReal) = _
    rw [Real.rpow_natCast]
  · rw [if_neg hk, if_neg (by rw [decide_eq_false hk]; decide)]

end Cert.KernelValue

end
-- ==== Proof.Value.Compress.lean ====
/-
  The power-law compression of one element: the kernel's exponentials and reciprocal square root are the reference's powers.
-/
module

public import proofs.«01_k».proof.Proof.Value.Consts
public import Mathlib.Analysis.SpecialFunctions.Pow.Real

@[expose] public section

noncomputable section

namespace Cert.Compress

open Idealize.ShloMosaic Cert.Consts

/-- Two to the power of a logarithm to base two, scaled. -/
theorem rpow_log {z a : ℝ} (hz : 0 < z) : Real.rpow 2 (-a * (Real.log z * (Real.log 2)⁻¹)) = 1 / Real.rpow z a := by
  have h2 : Real.log 2 ≠ 0 := (Real.log_pos one_lt_two).ne'
  show (2 : ℝ) ^ (-a * (Real.log z * (Real.log 2)⁻¹)) = 1 / z ^ a
  rw [one_div, ← Real.rpow_neg hz.le, Real.rpow_def_of_pos two_pos, Real.rpow_def_of_pos hz]
  congr 1; field_simp

/-- A positive real's power is not zero. -/
theorem rpow_ne_zero {r : ℝ} (hr : 0 < r) (a : ℝ) : Real.rpow r a ≠ 0 := (Real.rpow_pos_of_pos hr a).ne'

/-- The kernel's quotient by a power is the reference's: `x · 2^(-a · log₂ z) = x / z^a`. -/
theorem quot {z : EReal} (hz : 0 < z) {a : ℝ} (ha : 0 < a) (x : EReal) :
    x * Ideal.exp2 (((-a : ℝ) : EReal) * (Ideal.log z * (((Real.log 2)⁻¹ : ℝ) : EReal))) = Ideal.div x (Ideal.pow z (a : EReal)) := by
  have h2 : 0 < (Real.log 2)⁻¹ := inv_pos.mpr (Real.log_pos one_lt_two)
  induction z using EReal.rec with
  | bot => exact absurd hz (by simp)
  | top =>
    rw [Ideal.log_top, EReal.top_mul_coe_of_pos h2, EReal.coe_mul_top_of_neg (by linarith), Ideal.exp2_bot, Ideal.pow_top,
      if_pos (EReal.coe_pos.mpr ha), Ideal.div, if_neg (by simp), EReal.inv_top]
  | coe r =>
    have hr : 0 < r := EReal.coe_pos.mp hz
    rw [Ideal.log_coe, if_neg (not_le.mpr hr), ← EReal.coe_mul, ← EReal.coe_mul, Ideal.exp2_coe, Ideal.pow_coe_coe, rpow_log hr,
      Ideal.div_coe (rpow_ne_zero hr a)]

/-- A positive real times its reciprocal square root is its square root. -/
theorem mul_rsqrt {u : ℝ} (hu : 0 < u) : (u : EReal) * Ideal.rsqrt (u : EReal) = Ideal.pow (u : EReal) ((1 / 2 : ℝ) : EReal) := by
  rw [Ideal.rsqrt_coe, if_neg (not_lt.mpr hu.le), if_neg hu.ne', Ideal.pow_coe_coe, ← EReal.coe_mul]
  refine congrArg _ ?_
  show u * (Real.sqrt u)⁻¹ = u ^ (1 / 2 : ℝ)
  rw [← Real.sqrt_eq_rpow, ← div_eq_mul_inv, Real.div_sqrt]

/-- The quotient is a nonnegative real: it could be infinite only at an infinite frame, just after which the smoother is infinite. -/
theorem quot_real {x m : EReal} (hx : 0 ≤ x) (hm : 0 ≤ m) (hxm : x = ⊤ → m = ⊤) {a e : ℝ} (ha : 0 < a) (he : 0 < e) :
    ∃ w : ℝ, 0 ≤ w ∧ Ideal.div x (Ideal.pow (m + (e : EReal)) (a : EReal)) = (w : EReal) := by
  by_cases hm' : m = ⊤
  · refine ⟨0, le_refl _, ?_⟩
    rw [hm', EReal.top_add_coe, Ideal.pow_top, if_pos (EReal.coe_pos.mpr ha), Ideal.div, if_neg (by simp), EReal.inv_top, mul_zero, EReal.coe_zero]
  · have hx' : x ≠ ⊤ := fun h => hm' (hxm h)
    lift x to ℝ using ⟨hx', fun h => by simp [h] at hx⟩
    lift m to ℝ using ⟨hm', fun h => by simp [h] at hm⟩
    have hz : 0 < m + e := add_pos_of_nonneg_of_pos (EReal.coe_nonneg.mp hm) he
    rw [← EReal.coe_add, Ideal.pow_coe_coe, Ideal.div_coe (rpow_ne_zero hz a), ← EReal.coe_mul]
    exact ⟨_, mul_nonneg (EReal.coe_nonneg.mp hx) (one_div_nonneg.mpr (Real.rpow_pos_of_pos hz a).le), rfl⟩

/-- One element compressed, the kernel's way and the reference's. `d` is what both subtract. -/
theorem element {x m : EReal} (hx : 0 ≤ x) (hm : 0 ≤ m) (hxm : x = ⊤ → m = ⊤) (d : EReal) :
    (x * Ideal.exp2 (((-α : ℝ) : EReal) * (Ideal.log (m + (ε : EReal)) * (((Real.log 2)⁻¹ : ℝ) : EReal))) + ((2 : ℝ) : EReal))
        * Ideal.rsqrt (x * Ideal.exp2 (((-α : ℝ) : EReal) * (Ideal.log (m + (ε : EReal)) * (((Real.log 2)⁻¹ : ℝ) : EReal))) + ((2 : ℝ) : EReal)) - d
      = Ideal.pow (Ideal.div x (Ideal.pow (m + (ε : EReal)) (α : EReal)) + ((2 : ℝ) : EReal)) ((1 / 2 : ℝ) : EReal) - d := by
  have hz : 0 < m + (ε : EReal) := lt_of_lt_of_le (EReal.coe_pos.mpr ε_pos) (le_add_of_nonneg_left hm)
  rw [quot hz α_pos x]
  obtain ⟨w, hw, h⟩ := quot_real hx hm hxm α_pos ε_pos
  rw [h, ← EReal.coe_add, mul_rsqrt (by linarith)]

end Cert.Compress

end
-- ==== Proof.Value.Ref.lean ====
/-
  What the reference computes over the reals: its loop runs the smoother along the frames of each frequency, and the
  operations after it compress each element.
-/
module

public import proofs.«01_k».proof.Proof.Value.Consts
public import proofs.«01_k».proof.Proof.Value.Scan
public import proofs.«01_k».proof.Proof.Gen.ReferenceIdeal.Run
public import Idealize.ShloMosaic.Lib.Pipeline.Value
public import Idealize.ShloMosaic.Lib.ValueLayout
public import Idealize.ShloMosaic.Lib.WordCmp

@[expose] public section

noncomputable section

namespace Cert.RefValue

open Idealize.ShloMosaic Idealize.ShloMosaic.ValueIdx Idealize.ShloMosaic.TcCoe Idealize.ShloMosaic.StableHlo Idealize.SL.Sem
open Cert.ReferenceIdeal Cert.ReferenceIdeal.Gen Cert.ReferenceIdeal.Value
open Cert.Consts Cert.Scan

/-- Where trip `k` reads its frame and writes its state: the counter's word is the number `k`. -/
theorem starts {k : ℕ} (hk : k < 4096) (a : Fin 3) :
    (((![fun _ => BitVec.ofNat 32 k, constantI S_ 32 0#32, constantI S_ 32 0#32] : Fin 3 → (⟨S_, .i32⟩ : BufTy).Contents (Elt Ideal)) a (Shape.Idx.first h_S_)).toInt : Int)
      = ((![k, 0, 0] : Fin 3 → ℕ) a : Int) := by
  match a with
  | 0 =>
    show (BitVec.ofNat 32 k).toInt = (k : Int)
    have h : (BitVec.ofNat 32 k).toNat = k := by rw [BitVec.toNat_ofNat]; omega
    rw [BitVec.toInt_eq_toNat_of_lt (by omega), h]
  | 1 => rfl
  | 2 => rfl

/-- One frame there fits. -/
theorem fits {k : ℕ} (hk : k < 4096) : S4096x32x256.Slices ![k, 0, 0] S1x32x256 := ⟨rfl, fun a => by
  match a with
  | 0 => show k + 1 ≤ 4096; omega
  | 1 => show 0 + 32 ≤ 32; omega
  | 2 => show 0 + 256 ≤ 256; omega⟩

/-- One trip's new smoother state: the old one and the frame, each times its coefficient. -/
theorem state_step (V : Valuation τ sig (Elt Ideal)) {k : ℕ} (hk : k < 4096) (hc : V (Proc.devRef .tc main_v5_1) = fun _ => BitVec.ofNat 32 k)
    (b : Fin 32) (f : Fin 256) :
    res_main_while0b_v24 V (ix2 b f) = (q : EReal) * V (Proc.devRef .tc main_v5_2) (ix2 b f) + (s : EReal) * V (Proc.devRef .tc main_v5_0) (ix3 ⟨k, hk⟩ b f) := by
  unfold res_main_while0b_v24
  rw [hc]
  rw [WordCmp.dynamicSlice_eq_extract S1x32x256 _ _ _ ![k, 0, 0] (fits hk) (starts hk)]
  show FloatOps.addf (FloatOps.mulf (Ideal.ofBits .f32 0x3F79999A#32) _) (FloatOps.mulf (Ideal.ofBits .f32 0x3CCCCCCD#32) (shapeCast S32x256 _ _ (ix2 b f))) = _
  rw [shapeCast_1ab_ab_apply, extractStridedSlice_apply _ _ _ _ (ix3 ⟨k, hk⟩ b f) (fun a => by
    match a with
    | 0 => rfl
    | 1 => exact (Nat.zero_add _).symm
    | 2 => exact (Nat.zero_add _).symm), word_q, word_s]
  rfl

/-- One trip's new states: the trip's own is the new state, the others are as before. -/
theorem states_step (V : Valuation τ sig (Elt Ideal)) {k : ℕ} (hk : k < 4096) (hc : V (Proc.devRef .tc main_v5_1) = fun _ => BitVec.ofNat 32 k)
    (t : Fin 4096) (b : Fin 32) (f : Fin 256) :
    step_main_v5_3 V (ix3 t b f) = if t.val = k then res_main_while0b_v24 V (ix2 b f) else V (Proc.devRef .tc main_v5_3) (ix3 t b f) := by
  unfold step_main_v5_3
  generalize res_main_while0b_v24 V = W
  rw [hc]
  rw [id, WordCmp.dynamicUpdateSlice_eq_update _ _ _ _ ![k, 0, 0] (fits hk) (starts hk)]
  unfold updateSlice
  by_cases ht : t.val = k
  · rw [if_pos ht, dif_pos (fun a => by
      match a with
      | 0 => show k ≤ t.val ∧ t.val < k + 1; omega
      | 1 => show 0 ≤ b.val ∧ b.val < 0 + 32; have := b.isLt; omega
      | 2 => show 0 ≤ f.val ∧ f.val < 0 + 256; have := f.isLt; omega)]
    refine broadcastInDim_apply _ _ _ _ (ix2 b f) fun a => ?_
    match a with
    | 0 => rfl
    | 1 => rfl
  · rw [if_neg ht, dif_neg (fun h => ht (by have h0 : k ≤ t.val ∧ t.val < k + 1 := h 0; omega))]

/-- The loop's entry: the frames come first, and the counter, the state and the states are zero. -/
theorem entry_frames (m : (ℓ : Loc nD τ sig) → Buf (Elt Ideal) ℓ) (c : Dev nD) (t : Fin 4096) (b : Fin 32) (f : Fin 256) :
    entryContents preI m c (Proc.devRef .tc main_v5_0) (ix3 t b f) = m ((c.tc : Thread nD τ).loc main_arg0) (ix3 b f t) := by
  have h : entryContents preI m c (Proc.devRef .tc main_v5_0)
      = transpose S4096x32x256 [2, 0, 1] (m ((c.tc : Thread nD τ).loc main_arg0)) transposes_S32x256x4096_S4096x32x256_2_0_1 := by
    simp only [entryContents, afterL_cons, afterL_nil]
    after_reads_simp
    rfl
  rw [h]
  refine transpose_apply _ _ _ _ (ix3 b f t) fun a => ?_
  match a with
  | 0 => rfl
  | 1 => rfl
  | 2 => rfl

theorem entry_state (m : (ℓ : Loc nD τ sig) → Buf (Elt Ideal) ℓ) (c : Dev nD) (b : Fin 32) (f : Fin 256) :
    entryContents preI m c (Proc.devRef .tc main_v5_2) (ix2 b f) = (0 : EReal) := by
  have h : entryContents preI m c (Proc.devRef .tc main_v5_2) = fun _ => (Ideal.ofBits .f32 0x00000000#32 : EReal) := by
    simp only [entryContents, afterL_cons, afterL_nil]
    after_reads_simp
    rfl
  rw [h]; exact word_zero

/-- Before trip `k`: the frames are in place, the counter counts, and the state and the states written are the smoother's. -/
theorem loop_inv (m : (ℓ : Loc nD τ sig) → Buf (Elt Ideal) ℓ) (c : Dev nD) : ∀ k ≤ 4096,
    (∀ (t : Fin 4096) (b : Fin 32) (f : Fin 256), (STEP^[k] (entryContents preI m c)) (Proc.devRef .tc main_v5_0) (ix3 t b f) = m ((c.tc : Thread nD τ).loc main_arg0) (ix3 b f t))
    ∧ (STEP^[k] (entryContents preI m c)) (Proc.devRef .tc main_v5_1) = (fun _ => BitVec.ofNat 32 k)
    ∧ (∀ (b : Fin 32) (f : Fin 256), (STEP^[k] (entryContents preI m c)) (Proc.devRef .tc main_v5_2) (ix2 b f) = ema (q : EReal) (s : EReal) 0 (row (m ((c.tc : Thread nD τ).loc main_arg0)) b f) k)
    ∧ ∀ (t : Fin 4096) (b : Fin 32) (f : Fin 256), t.val < k →
      (STEP^[k] (entryContents preI m c)) (Proc.devRef .tc main_v5_3) (ix3 t b f) = ema (q : EReal) (s : EReal) 0 (row (m ((c.tc : Thread nD τ).loc main_arg0)) b f) (t.val + 1)
  | 0, _ => ⟨entry_frames m c, ctr_entry m c, entry_state m c, fun _ _ _ h => absurd h (Nat.not_lt_zero _)⟩
  | k + 1, hk => by
    obtain ⟨h0, h1, h2, h3⟩ := loop_inv m c k (by omega)
    have hk' : k < 4096 := by omega
    rw [Function.iterate_succ_apply']
    generalize STEP^[k] (entryContents preI m c) = V at h0 h1 h2 h3
    have hn : ∀ (b : Fin 32) (f : Fin 256), res_main_while0b_v24 V (ix2 b f) = ema (q : EReal) (s : EReal) 0 (row (m ((c.tc : Thread nD τ).loc main_arg0)) b f) (k + 1) := fun b f => by
      rw [state_step V hk' h1, h2, h0, ← row_of_lt (m ((c.tc : Thread nD τ).loc main_arg0)) b f hk']; rfl
    rw [STEP_main_v5_0, STEP_main_v5_1, STEP_main_v5_2, STEP_main_v5_3]
    refine ⟨h0, ?_, hn, fun t b f ht => ?_⟩
    · unfold step_main_v5_1
      rw [h1]
      funext i
      exact (BitVec.ofNat_add_ofNat k 1)
    · rw [states_step V hk' h1, hn]
      by_cases e : t.val = k
      · rw [if_pos e, e]
      · rw [if_neg e, h3 t b f (by omega)]

/-- The reference's result as a function of its input. -/
def out (X : (⟨3, ![32, 256, 4096]⟩ : Shape).Idx → EReal) (j : (⟨3, ![32, 256, 4096]⟩ : Shape).Idx) : EReal :=
  Ideal.pow (Ideal.div (X j) (Ideal.pow (ema (q : EReal) (s : EReal) 0 (row X (j 0) (j 1)) ((j 2).val + 1) + (ε : EReal)) (α : EReal)) + ((2 : ℝ) : EReal)) ((1 / 2 : ℝ) : EReal)
    - Ideal.pow ((2 : ℝ) : EReal) ((1 / 2 : ℝ) : EReal)

/-- The reference ends with `out` of its input in its result. -/
theorem value (m : (ℓ : Loc nD τ sig) → Buf (Elt Ideal) ℓ) (c : Dev nD) :
    out_main_v18 (STEP^[4096] (entryContents preI m c)) = out (m ((c.tc : Thread nD τ).loc main_arg0)) := by
  obtain ⟨-, -, -, h3⟩ := loop_inv m c 4096 (le_refl _)
  have ha := iter_main_arg0 m c 4096
  generalize STEP^[4096] (entryContents preI m c) = V at h3 ha
  unfold out_main_v18
  rw [ha]
  funext j
  obtain ⟨b, f, t, rfl⟩ : ∃ (b : Fin 32) (f : Fin 256) (t : Fin 4096), j = ix3 b f t := ⟨j 0, j 1, j 2, eq_ix3 j⟩
  have ht : (transpose S32x256x4096 [1, 2, 0] (V (Proc.devRef .tc main_v5_3)) transposes_S4096x32x256_S32x256x4096_1_2_0 (ix3 b f t) : EReal)
      = ema (q : EReal) (s : EReal) 0 (row (m ((c.tc : Thread nD τ).loc main_arg0)) b f) (t.val + 1) := by
    refine Eq.trans (transpose_apply _ _ _ _ (ix3 t b f) fun a => ?_) (h3 t b f t.isLt)
    match a with
    | 0 => rfl
    | 1 => rfl
    | 2 => rfl
  generalize hT : transpose S32x256x4096 [1, 2, 0] (V (Proc.devRef .tc main_v5_3)) transposes_S4096x32x256_S32x256x4096_1_2_0 = T at ht
  change FVec Ideal S32x256x4096 .f32 at T
  show Ideal.pow (Ideal.div (m ((c.tc : Thread nD τ).loc main_arg0) (ix3 b f t)) (Ideal.pow (T (ix3 b f t) + Ideal.ofBits .f32 0x358637BD#32)
    (Ideal.ofBits .f32 0x3F7AE148#32)) + Ideal.ofBits .f32 0x40000000#32) (Ideal.ofBits .f32 0x3F000000#32)
    - Ideal.pow (Ideal.ofBits .f32 0x40000000#32) (Ideal.ofBits .f32 0x3F000000#32) = _
  rw [ht, word_ε, word_α, word_two, word_half]
  rfl

end Cert.RefValue

end
-- ==== Proof.Value.Kernel.lean ====
/-
  What the kernel computes over the reals: one chunk step runs the smoother over a chunk from the carried column and
  compresses each element, so the whole result is the reference's function of the input.
-/
module

public import proofs.«01_k».proof.Proof.Value.Table
public import proofs.«01_k».proof.Proof.Value.Compress
public import proofs.«01_k».proof.Proof.Value.Ref
public import Idealize.ShloMosaic.Lib.MatmulPlain

@[expose] public section

noncomputable section

namespace Cert.KernelValue

open Idealize.ShloMosaic Idealize.ShloMosaic.ValueIdx Idealize.ShloMosaic.TcCoe Idealize.SL.Sem
open Cert.KernelIdeal Cert.KernelIdeal.Gen Cert.KernelIdeal.Ring
open Cert.Consts Cert.Scan

/-! ## One chunk step -/

section Chunk
variable {L : FVec Ideal S256x256 .f32} (hL : ∀ k t : Fin 256, L (ix2 k t) = entry q s k.val t.val)

/-- A chunk read as a matrix. -/
theorem mat_apply (x : FVec Ideal S1x1x256x256 .f32) (r t : Fin 256) : k0_pay8 (F := Ideal) x (ix2 r t) = x (ix4 0 0 r t) := by
  unfold k0_pay8
  show x (Shape.reshapeEquiv _ (ix2 r t)) = _
  rw [reshapeEquiv_ix2_11ab]
  rfl

theorem tab_apply (k t : Fin 256) : k0_pay1 (F := Ideal) L (ix2 k t) = L (ix2 k t) := by
  unfold k0_pay1
  exact congrFun (shapeCast_self L _) (ix2 k t)

include hL in
/-- The decay of the carry at column `t`: the table's first row times the named ratio of the coefficients. -/
theorem decay_apply (t : Fin 256) : k0_pay2 (F := Ideal) L (ix2 0 t) = ((q ^ (t.val + 1) : ℝ) : EReal) := by
  have e : extractStridedSlice S1x256 ![0, 0] (k0_pay1 (F := Ideal) L) slices_S256x256_o0_0_S1x256 (ix2 0 t) = entry q s 0 t.val := by
    rw [extractStridedSlice_apply _ _ _ _ (ix2 (0 : Fin 256) t) (fun a => by
      match a with
      | 0 => rfl
      | 1 => exact (Nat.zero_add _).symm), tab_apply, hL]
    rfl
  have n : (Named.named (F := Ideal) (φ := .f32) κ "decay_ratio" 0x421C0000#32 : EReal) = ((523449152 / 13421773 : ℝ) : EReal) :=
    IdealRules.named_const.ideal_named_scalar _ _ _ _ rfl
  unfold k0_pay2
  generalize hE : extractStridedSlice S1x256 ![0, 0] (k0_pay1 (F := Ideal) L) slices_S256x256_o0_0_S1x256 = E at e
  change FVec Ideal S1x256 .f32 at E
  show E (ix2 0 t) * (Named.named (F := Ideal) (φ := .f32) κ "decay_ratio" 0x421C0000#32 : EReal) = _
  rw [e, n]
  unfold entry
  rw [if_pos (Nat.zero_le _), Nat.sub_zero, ← EReal.coe_mul]
  congr 1
  rw [pow_succ, ← s_ratio]; ring

/-- A chunk step's scan at row `r`, column `t`: the row's product with the table's column, plus the carry decayed. -/
theorem scan_apply (D : FVec Ideal S1x256 .f32) (B : FVec Ideal S256x256 .bf16) (C : FVec Ideal S256x1 .f32) (x : FVec Ideal S1x1x256x256 .f32) (r t : Fin 256) :
    k0_pay9 (F := Ideal) D B C x (ix2 r t) = (∑ k : Fin 256, x (ix4 0 0 r k) * B (ix2 k t)) + C (ix2 r 0) * D (ix2 0 t) := by
  have h1 := Ideal.matmul_plain_apply none (truncf .bf16 (k0_pay8 (F := Ideal) x) bitsLt_bf16_f32) B (constant S256x256 .f32 0x00000000#32) r t
  have h2 : broadcastTo S256x256 C broadcasts_S256x1_S256x256 (ix2 r t) = C (ix2 r 0) :=
    broadcastTo_apply C _ (ix2 r t) (ix2 r 0) fun a => by
      match a with
      | 0 => rfl
      | 1 => rfl
  have h3 : broadcastTo S256x256 D broadcasts_S1x256_S256x256 (ix2 r t) = D (ix2 0 t) := broadcastTo_1b_ab_apply D _ r t
  unfold k0_pay9
  refine Eq.trans (congrArg₂ (fun a b : EReal => a + b) h1 (congrArg₂ (fun a b : EReal => a * b) h2 h3)) ?_
  refine congrArg (· + C (ix2 r 0) * D (ix2 0 t)) ?_
  refine Eq.trans (congrArg (· + _) word_zero) ((zero_add _).trans (Finset.sum_congr rfl fun k _ => ?_))
  exact congrArg (· * B (ix2 k t)) (mat_apply x r k)

include hL in
/-- A chunk step's scan is the smoother run over the chunk's row from the carry. -/
theorem m_apply (C : FVec Ideal S256x1 .f32) (x : FVec Ideal S1x1x256x256 .f32) (r t : Fin 256) (y : ℕ → EReal)
    (hC : 0 ≤ C (ix2 r 0)) (hy : ∀ k, 0 ≤ y k) (hx : ∀ k : Fin 256, x (ix4 0 0 r k) = y k.val) :
    mOf (F := Ideal) L C x (ix2 r t) = ema (q : EReal) (s : EReal) (C (ix2 r 0)) y (t.val + 1) := by
  have hB : ∀ k : Fin 256, k0_pay3 (F := Ideal) L (ix2 k t) = entry q s k.val t.val := fun k => (tab_apply k t).trans (hL k t)
  refine (scan_apply _ _ C x r t).trans ?_
  rw [decay_apply hL]
  refine Eq.trans (congrArg (· + _) (Finset.sum_congr rfl fun k _ => congrArg₂ (fun a b : EReal => a * b) (hx k) (hB k))) ?_
  exact chunk q_pos.le s_pos.le hC hy t

/-- The carry after a chunk step is the last column of its scan. -/
theorem carry_apply (C : FVec Ideal S256x1 .f32) (x : FVec Ideal S1x1x256x256 .f32) (r : Fin 256) :
    carryOf (F := Ideal) L C x (ix2 r 0) = mOf (F := Ideal) L C x (ix2 r 255) := by
  unfold carryOf k0_pay10
  exact extractStridedSlice_apply _ _ _ _ (ix2 r 255) fun a => by
    match a with
    | 0 => exact (Nat.zero_add _).symm
    | 1 => rfl

/-- The compression, element by element. -/
theorem compress_apply (x M : FVec Ideal S256x256 .f32) (r t : Fin 256) (hx : 0 ≤ x (ix2 r t)) (hm : 0 ≤ M (ix2 r t)) (hxm : x (ix2 r t) = ⊤ → M (ix2 r t) = ⊤) :
    k0_pay7 (F := Ideal) x M epsW (ix4 0 0 r t)
      = Ideal.pow (Ideal.div (x (ix2 r t)) (Ideal.pow (M (ix2 r t) + (ε : EReal)) (α : EReal)) + ((2 : ℝ) : EReal)) ((1 / 2 : ℝ) : EReal) - Ideal.pow ((2 : ℝ) : EReal) ((1 / 2 : ℝ) : EReal) := by
  have n : (Named.named (F := Ideal) (φ := .f32) κ "inv_ln2" 0x3FB8AA3B#32 : EReal) = (((Real.log 2)⁻¹ : ℝ) : EReal) :=
    IdealRules.named_const.ideal_named_scalar _ _ _ _ rfl
  have d : (Named.named (F := Ideal) (φ := .f32) κ "sqrt_delta" 0x3FB504F3#32 : EReal) = Ideal.pow ((2 : ℝ) : EReal) ((1 / 2 : ℝ) : EReal) :=
    (IdealRules.named_const.ideal_named_scalar _ _ _ _ rfl).trans (congrArg (fun v : ℝ => (v : EReal)) (Real.sqrt_eq_rpow 2))
  have e : ∀ u : FVec Ideal S256x256 .f32, shapeCast S1x1x256x256 u shapeCasts_S256x256_S1x1x256x256 (ix4 0 0 r t) = u (ix2 r t) := fun u =>
    shapeCast_apply u _ _ _ (by
      rw [Shape.rowMajor_val_four, Shape.rowMajor_val_two]
      show r.val * 256 + t.val = ((0 * 1 + 0) * 256 + r.val) * 256 + t.val
      omega)
  refine Eq.trans ?_ (Compress.element hx hm hxm _)
  unfold k0_pay7
  refine (e _).trans ?_
  show ((x (ix2 r t) * Ideal.exp2 (Ideal.ofBits .f32 0xBF7AE148#32 * (Ideal.log (M (ix2 r t) + Ideal.ofBits .f32 0x358637BD#32) * (Named.named (F := Ideal) (φ := .f32) κ "inv_ln2" 0x3FB8AA3B#32 : EReal))) + Ideal.ofBits .f32 0x40000000#32)
    * Ideal.rsqrt (x (ix2 r t) * Ideal.exp2 (Ideal.ofBits .f32 0xBF7AE148#32 * (Ideal.log (M (ix2 r t) + Ideal.ofBits .f32 0x358637BD#32) * (Named.named (F := Ideal) (φ := .f32) κ "inv_ln2" 0x3FB8AA3B#32 : EReal))) + Ideal.ofBits .f32 0x40000000#32)
    - (Named.named (F := Ideal) (φ := .f32) κ "sqrt_delta" 0x3FB504F3#32 : EReal) : EReal) = _
  rw [n, d, word_neg_α, word_ε, word_two]

end Chunk

/-! ## The whole result -/

section Whole
variable {L : FVec Ideal S256x256 .f32} (hL : ∀ k t : Fin 256, L (ix2 k t) = entry q s k.val t.val)
variable {X : FVec Ideal S2x256x4096 .f32} {A : S32x256x4096.Idx → EReal} (hA : ∀ i, 0 ≤ A i) {b : Fin 2} {B : Fin 32}
  (hX : ∀ (r : Fin 256) (t : Fin 4096), X (ix3 b r t) = A (ix3 B r t))

include hX in
/-- A chunk's row is a stretch of the input's row. -/
theorem chunkOf_apply (n : Fin 16) (r k : Fin 256) : chunkOf (F := Ideal) X b n (ix4 0 0 r k) = row A B r (256 * n.val + k.val) := by
  have h : 256 * n.val + k.val < 4096 := by have := n.isLt; have := k.isLt; omega
  rw [row_of_lt A B r h, ← hX]
  rfl

include hL hA hX in
/-- The carry before chunk `n` is the smoother after `256 n` frames. -/
theorem carryAt_apply (r : Fin 256) : ∀ n ≤ 16, carryAt (F := Ideal) L X b n (ix2 r 0) = ema (q : EReal) (s : EReal) 0 (row A B r) (256 * n)
  | 0, _ => word_zero
  | n + 1, hn => by
    have ih := carryAt_apply r n (by omega)
    have h0 : (0 : EReal) ≤ carryAt (F := Ideal) L X b n (ix2 r 0) := by
      rw [ih]; exact ema_nonneg q_pos.le s_pos.le (le_refl _) (row_nonneg hA B r) _
    have e : (Fin.ofNat 16 n).val = n := Nat.mod_eq_of_lt (by omega)
    show carryOf (F := Ideal) L (carryAt L X b n) (chunkOf X b (Fin.ofNat 16 n)) (ix2 r 0) = _
    rw [carry_apply, m_apply hL _ _ r 255 (fun i => row A B r (256 * n + i)) h0 (fun _ => row_nonneg hA B r _) (fun k => by
      rw [chunkOf_apply hX, e]), ih, ema_add]
    rfl

include hL hA hX in
/-- The compressed block is the reference's function of the input. -/
theorem outBlock_apply (r : Fin 256) (t : Fin 4096) : outBlock (F := Ideal) L X (ix3 b r t) = RefValue.out A (ix3 B r t) := by
  have hn : t.val / 256 < 16 := by have := t.isLt; omega
  have hk : t.val % 256 < 256 := Nat.mod_lt _ (by omega)
  have ht : 256 * (t.val / 256) + t.val % 256 = t.val := Nat.div_add_mod _ _
  have hc := carryAt_apply hL hA hX r (t.val / 256) hn.le
  have hM : mOf (F := Ideal) L (carryAt L X b (t.val / 256)) (chunkOf X b ⟨t.val / 256, hn⟩) (ix2 r ⟨t.val % 256, hk⟩)
      = ema (q : EReal) (s : EReal) 0 (row A B r) (t.val + 1) := by
    rw [m_apply hL _ _ r ⟨t.val % 256, hk⟩ (fun i => row A B r (256 * (t.val / 256) + i))
      (by rw [hc]; exact ema_nonneg q_pos.le s_pos.le (le_refl _) (row_nonneg hA B r) _)
      (fun _ => row_nonneg hA B r _) (fun k => chunkOf_apply hX ⟨t.val / 256, hn⟩ r k), hc, ema_add]
    show ema _ _ _ _ (256 * (t.val / 256) + (t.val % 256 + 1)) = _
    rw [← Nat.add_assoc, ht]
  have hx : k0_pay8 (F := Ideal) (chunkOf X b ⟨t.val / 256, hn⟩) (ix2 r ⟨t.val % 256, hk⟩) = A (ix3 B r t) := by
    rw [mat_apply, chunkOf_apply hX]
    show row A B r (256 * (t.val / 256) + t.val % 256) = _
    rw [ht, row_of_lt A B r t.isLt]
  show outOf (F := Ideal) L (carryAt L X b (t.val / 256)) (chunkOf X b ⟨t.val / 256, hn⟩) (ix4 0 0 r ⟨t.val % 256, hk⟩) = _
  refine (compress_apply _ _ r ⟨t.val % 256, hk⟩ ?_ ?_ ?_).trans ?_
  · rw [hx]; exact hA _
  · rw [hM]; exact ema_nonneg q_pos.le s_pos.le (le_refl _) (row_nonneg hA B r) _
  · rw [hx, hM]
    exact fun h => ema_top q_pos.le s_pos (le_refl _) (row_nonneg hA B r) t.val ((row_of_lt A B r t.isLt).trans h)
  · rw [hx, hM]; rfl

end Whole

/-- From a nonnegative input, the kernel's result is the reference's function of it. -/
theorem outBuf_eq (m : (ℓ : Loc nD τ sig) → Buf (Elt Ideal) ℓ) (c : Dev nD) (hA : ∀ i, (0 : EReal) ≤ m ((c.tc : Thread nD τ).loc main_arg0) i) :
    outBuf (F := Ideal) (Ltab m c) (m ((c.tc : Thread nD τ).loc main_arg0)) = RefValue.out (m ((c.tc : Thread nD τ).loc main_arg0)) := by
  funext j
  obtain ⟨B, r, t, rfl⟩ : ∃ (B : Fin 32) (r : Fin 256) (t : Fin 4096), j = ix3 B r t := ⟨j 0, j 1, j 2, eq_ix3 j⟩
  have hB := B.isLt
  refine outBlock_apply (B := B) (table m c) hA (fun r t => ?_) r t
  refine congrArg (m ((c.tc : Thread nD τ).loc main_arg0)) (?_ : (Rect.unit (s := S32x256x4096) (blkOff (Fin.ofNat 16 (B.val / 2))) S2x256x4096.size (blkOff_inb _)).emb (ix3 (Fin.ofNat 2 (B.val % 2)) r t) = ix3 B r t)
  funext a
  apply Fin.ext
  rw [blk_emb]
  match a with
  | 0 => show 2 * (B.val / 2 % 16) + B.val % 2 % 2 = B.val; omega
  | 1 => exact Nat.zero_add _
  | 2 => exact Nat.zero_add _

end Cert.KernelValue

end
-- ==== Proof.Algebraic.lean ====
/-
  The idealized kernel and the reference agree over the reals: from nonnegative inputs both end with one function of them.
-/
module

public import proofs.«01_k».proof.Proof.Value.Kernel
public import proofs.«01_k».proof.Proof.Value.Ref
public import proofs.«01_k».proof.Proof.Gen.Pre_nonnegative
public import proofs.«01_k».proof.Defs
public import Idealize.ShloMosaic.Lib.ReduceAll

@[expose] public section

noncomputable section

namespace Cert.Algebraic

open Idealize.ShloMosaic Idealize.ShloMosaic.TcCoe Idealize.SL.Sem

/-- The rank-zero shape has one index. -/
theorem subsingleton_scalar : Subsingleton (Cert.Pre_nonnegative.S_).Idx := ⟨fun _ _ => funext fun a => a.elim0⟩

/-- The precondition says that no element is negative. -/
theorem nonneg (x : FVec Ideal Cert.Pre_nonnegative.S32x256x4096 .f32)
    (h : @Cert.Pre_nonnegative.fn Cert.Pre_nonnegative.Gen.facts Ideal _ x = fun _ => 1#1) (i : Cert.Pre_nonnegative.S32x256x4096.Idx) : (0 : EReal) ≤ x i := by
  have := subsingleton_scalar
  have h1 := congrFun h (Shape.Idx.first (by decide))
  unfold Cert.Pre_nonnegative.fn at h1
  have h2 : Ideal.cmp .oge (x i) (Ideal.ofBits .f32 0x00000000#32) = 1#1 := Host.reduce_andi_all _ _ _ _ _ h1 i
  rw [Cert.Consts.word_zero] at h2
  by_contra hn
  simp [Ideal.cmp, hn] at h2

/-- From nonnegative inputs, the idealized kernel and the reference end with equal results and their inputs unchanged. -/
theorem algebraic : Cert.algebraic_KernelIdeal_ReferenceIdeal_pre_nonnegative (hKernelIdeal := Cert.KernelIdeal.Gen.facts)
    (hReferenceIdeal := Cert.ReferenceIdeal.Gen.facts) (hPre_nonnegative := Cert.Pre_nonnegative.Gen.facts) := fun m g m' g' hp hm =>
  ⟨fun c => RefValue.out (m ((c.tc : Thread Cert.KernelIdeal.nD Cert.KernelIdeal.τ).loc Cert.KernelIdeal.main_arg0)),
    (θ_run (Cert.KernelIdeal.defs (F := Ideal)) _ _).mono
      (fun _ h c => ⟨(h.1 c).1.trans (KernelValue.outBuf_eq m c (nonneg _ (hp c))), (h.1 c).2⟩) (Cert.KernelIdeal.Ring.run_main m g),
    (θ_run (Cert.ReferenceIdeal.defs (F := Ideal)) _ _).mono
      (fun _ h c => ⟨(h c).1.trans ((RefValue.value m' c).trans (congrArg RefValue.out (hm c))), (h c).2⟩) (Cert.ReferenceIdeal.Value.run m' g')⟩

end Cert.Algebraic

end
-- ==== Proof.lean ====
/-
  The proof of `Cert.Claim`: the parts are proved in the modules under Proof/, and put together here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_nonnegative
public import proofs.«01_k».proof.Proof.Frames
public import proofs.«01_k».proof.Proof.Reference
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim := ⟨Cert.Kernel.Gen.facts, Cert.KernelIdeal.Gen.facts, Cert.ReferenceIdeal.Gen.facts, Cert.Pre_nonnegative.Gen.facts,
  Cert.Frames.quiescent_Kernel, Cert.Frames.quiescent_KernelIdeal, Cert.Frames.quiescent_KernelIdeal_pre,
  Cert.Reference.quiescent_ReferenceIdeal, Cert.Reference.quiescent_ReferenceIdeal_pre, Cert.Frames.preserves, Cert.Algebraic.algebraic⟩

end Cert.Proof

end
